-- ==== Defs.lean ====
def Pre_Kernel [hPre_drawn_ranges : Cert.Pre_drawn_ranges.Facts] (m : (ℓ : Loc Cert.Kernel.nD Cert.Kernel.τ Cert.Kernel.sig) → Buf (Elt Bits) ℓ) : Prop :=
  ∀ c : Dev Cert.Kernel.nD,
    (Cert.Pre_drawn_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_drawn_ranges : Cert.Pre_drawn_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_drawn_ranges : Cert.Pre_drawn_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_drawn_ranges : Cert.Pre_drawn_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] [hPre_drawn_ranges : Cert.Pre_drawn_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_drawn_ranges : Cert.Pre_drawn_ranges.Facts),
    quiescent_Kernel (hKernel := hKernel) (hPre_drawn_ranges := hPre_drawn_ranges)
    ∧ quiescent_KernelIdeal (hKernelIdeal := hKernelIdeal) (hPre_drawn_ranges := hPre_drawn_ranges)
    ∧ quiescent_ReferenceIdeal (hReferenceIdeal := hReferenceIdeal) (hPre_drawn_ranges := hPre_drawn_ranges)
    ∧ preserves_Kernel_KernelIdeal
    ∧ algebraic_KernelIdeal_ReferenceIdeal (hKernelIdeal := hKernelIdeal) (hReferenceIdeal := hReferenceIdeal) (hPre_drawn_ranges := hPre_drawn_ranges)
-- ==== Pre_drawn_ranges.lean ====
abbrev S8192 : Shape := ⟨1, ![8192]⟩
abbrev S8192x16 : Shape := ⟨2, ![8192, 16]⟩
abbrev S100000x256 : Shape := ⟨2, ![100000, 256]⟩
abbrev S128x64 : Shape := ⟨2, ![128, 64]⟩
abbrev S512x64 : Shape := ⟨2, ![512, 64]⟩
abbrev S512x128 : Shape := ⟨2, ![512, 128]⟩
abbrev S512 : Shape := ⟨1, ![512]⟩
abbrev S1024x384 : Shape := ⟨2, ![1024, 384]⟩
abbrev S1024x256 : Shape := ⟨2, ![1024, 256]⟩
abbrev S1024 : Shape := ⟨1, ![1024]⟩
abbrev S17x256 : Shape := ⟨2, ![17, 256]⟩
abbrev S17 : Shape := ⟨1, ![17]⟩
abbrev S_ : Shape := ⟨0, ![]⟩

class Facts : Prop where
  bcast_S_S8192 : S_.BroadcastsInDim S8192 (![] : Fin 0 → Fin S8192.rank)
  bcast_S_S8192x16 : S_.BroadcastsInDim S8192x16 (![] : Fin 0 → Fin S8192x16.rank)
  bcast_S8192_S8192x16_0 : S8192.BroadcastsInDim S8192x16 (![0] : Fin 1 → Fin S8192x16.rank)

variable [Facts]

def fn {F : FTy → Type} [FloatOps F] (main_arg0 : IVec S8192 32) (main_arg1 : IVec S8192x16 32) (main_arg2 : IVec S8192 32) (main_arg3 : FVec F S100000x256 .f32) (main_arg4 : FVec F S128x64 .f32) (main_arg5 : FVec F S512x64 .f32) (main_arg6 : FVec F S512x128 .f32) (main_arg7 : FVec F S512 .f32) (main_arg8 : FVec F S1024x384 .f32) (main_arg9 : FVec F S1024x256 .f32) (main_arg10 : FVec F S1024 .f32) (main_arg11 : FVec F S17x256 .f32) (main_arg12 : FVec F S17 .f32) : IVec S8192x16 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 100000#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 32 := constantI S_ 32 1#32
  let main_v5 : IVec S8192 32 := broadcastInDim S8192 ![] bcast_S_S8192 main_c_1
  let main_v6 : IVec S8192 1 := cmpi .sge main_arg2 main_v5
  let main_v7 : IVec S8192 1 := andi main_v4 main_v6
  let main_c_2 : IVec S_ 32 := constantI S_ 32 16#32
  let main_v8 : IVec S8192 32 := broadcastInDim S8192 ![] bcast_S_S8192 main_c_2
  let main_v9 : IVec S8192 1 := cmpi .sle main_arg2 main_v8
  let main_v10 : IVec S8192 1 := andi main_v7 main_v9
  let main_c_3 : IVec S_ 32 := constantI S_ 32 0#32
  let main_v11 : IVec S8192x16 32 := broadcastInDim S8192x16 ![] bcast_S_S8192x16 main_c_3
  let main_v12 : IVec S8192x16 1 := cmpi .sge main_arg1 main_v11
  let main_c_4 : IVec S_ 32 := constantI S_ 32 128#32
  let main_v13 : IVec S8192x16 32 := broadcastInDim S8192x16 ![] bcast_S_S8192x16 main_c_4
  let main_v14 : IVec S8192x16 1 := cmpi .slt main_arg1 main_v13
  let main_v15 : IVec S8192x16 1 := andi main_v12 main_v14
  let main_v16 : IVec S8192x16 1 := broadcastInDim S8192x16 ![0] bcast_S8192_S8192x16_0 main_v10
  let main_v17 : IVec S8192x16 1 := andi main_v16 main_v15
  main_v17
-- ==== Kernel.lean ====
abbrev S8192 : Shape := ⟨1, ![8192]⟩
abbrev S8192x16 : Shape := ⟨2, ![8192, 16]⟩
abbrev S100000x256 : Shape := ⟨2, ![100000, 256]⟩
abbrev S128x64 : Shape := ⟨2, ![128, 64]⟩
abbrev S512x64 : Shape := ⟨2, ![512, 64]⟩
abbrev S512x128 : Shape := ⟨2, ![512, 128]⟩
abbrev S512 : Shape := ⟨1, ![512]⟩
abbrev S1024x384 : Shape := ⟨2, ![1024, 384]⟩
abbrev S1024x256 : Shape := ⟨2, ![1024, 256]⟩
abbrev S1024 : Shape := ⟨1, ![1024]⟩
abbrev S17x256 : Shape := ⟨2, ![17, 256]⟩
abbrev S17 : Shape := ⟨1, ![17]⟩
abbrev S100000x1x256 : Shape := ⟨3, ![100000, 1, 256]⟩
abbrev S8192x1x256 : Shape := ⟨3, ![8192, 1, 256]⟩
abbrev S1x1x256 : Shape := ⟨3, ![1, 1, 256]⟩
abbrev S1 : Shape := ⟨1, ![1]⟩
abbrev S8192x256 : Shape := ⟨2, ![8192, 256]⟩
abbrev S131072 : Shape := ⟨1, ![131072]⟩
abbrev S64x512 : Shape := ⟨2, ![64, 512]⟩
abbrev S128x512 : Shape := ⟨2, ![128, 512]⟩
abbrev S1x512 : Shape := ⟨2, ![1, 512]⟩
abbrev S256x1024 : Shape := ⟨2, ![256, 1024]⟩
abbrev S1024x128 : Shape := ⟨2, ![1024, 128]⟩
abbrev S128x1024 : Shape := ⟨2, ![128, 1024]⟩
abbrev S1x1024 : Shape := ⟨2, ![1, 1024]⟩
abbrev S_ : Shape := ⟨0, ![]⟩
abbrev S256x128 : Shape := ⟨2, ![256, 128]⟩
abbrev S256x17 : Shape := ⟨2, ![256, 17]⟩
abbrev S1x128 : Shape := ⟨2, ![1, 128]⟩
abbrev S1x17 : Shape := ⟨2, ![1, 17]⟩
abbrev S8192x1x128 : Shape := ⟨3, ![8192, 1, 128]⟩
abbrev S1x256 : Shape := ⟨2, ![1, 256]⟩
abbrev S1x1x128 : Shape := ⟨3, ![1, 1, 128]⟩
abbrev S8192x128 : Shape := ⟨2, ![8192, 128]⟩
abbrev S8192x17 : Shape := ⟨2, ![8192, 17]⟩

abbrev nBuf : Space → Nat
  | .hbm => 40
  | .vmem => 17
  | .smem => 3
  | _ => 0

abbrev bufTy : (tb : Table) → Fin (tcTables nBuf tb) → BufTy
  | .hbm, ⟨0, _⟩ => ⟨S8192x16, .i32⟩
  | .hbm, ⟨1, _⟩ => ⟨S8192, .i32⟩
  | .hbm, ⟨2, _⟩ => ⟨S100000x256, .f32⟩
  | .hbm, ⟨3, _⟩ => ⟨S128x64, .f32⟩
  | .hbm, ⟨4, _⟩ => ⟨S512x64, .f32⟩
  | .hbm, ⟨5, _⟩ => ⟨S512x128, .f32⟩
  | .hbm, ⟨6, _⟩ => ⟨S512, .f32⟩
  | .hbm, ⟨7, _⟩ => ⟨S1024x384, .f32⟩
  | .hbm, ⟨8, _⟩ => ⟨S1024x256, .f32⟩
  | .hbm, ⟨9, _⟩ => ⟨S1024, .f32⟩
  | .hbm, ⟨10, _⟩ => ⟨S17x256, .f32⟩
  | .hbm, ⟨11, _⟩ => ⟨S17, .f32⟩
  | .hbm, ⟨12, _⟩ => ⟨S100000x1x256, .f32⟩
  | .hbm, ⟨13, _⟩ => ⟨S8192x1x256, .f32⟩
  | .hbm, ⟨14, _⟩ => ⟨S8192x256, .f32⟩
  | .hbm, ⟨15, _⟩ => ⟨S131072, .i32⟩
  | .hbm, ⟨16, _⟩ => ⟨S64x512, .f32⟩
  | .hbm, ⟨17, _⟩ => ⟨S128x512, .f32⟩
  | .hbm, ⟨18, _⟩ => ⟨S1x512, .f32⟩
  | .hbm, ⟨19, _⟩ => ⟨S1024x256, .f32⟩
  | .hbm, ⟨20, _⟩ => ⟨S256x1024, .f32⟩
  | .hbm, ⟨21, _⟩ => ⟨S1024x128, .f32⟩
  | .hbm, ⟨22, _⟩ => ⟨S128x1024, .f32⟩
  | .hbm, ⟨23, _⟩ => ⟨S256x1024, .f32⟩
  | .hbm, ⟨24, _⟩ => ⟨S1x1024, .f32⟩
  | .hbm, ⟨25, _⟩ => ⟨S_, .f32⟩
  | .hbm, ⟨26, _⟩ => ⟨S256x128, .f32⟩
  | .hbm, ⟨27, _⟩ => ⟨S256x17, .f32⟩
  | .hbm, ⟨28, _⟩ => ⟨S_, .i32⟩
  | .hbm, ⟨29, _⟩ => ⟨S1, .i32⟩
  | .hbm, ⟨30, _⟩ => ⟨S256x128, .f32⟩
  | .hbm, ⟨31, _⟩ => ⟨S_, .f32⟩
  | .hbm, ⟨32, _⟩ => ⟨S1x128, .f32⟩
  | .hbm, ⟨33, _⟩ => ⟨S1x17, .f32⟩
  | .hbm, ⟨34, _⟩ => ⟨S_, .i32⟩
  | .hbm, ⟨35, _⟩ => ⟨S1, .i32⟩
  | .hbm, ⟨36, _⟩ => ⟨S1x128, .f32⟩
  | .hbm, ⟨37, _⟩ => ⟨S8192x1x128, .f32⟩
  | .hbm, ⟨38, _⟩ => ⟨S8192x128, .f32⟩
  | .hbm, ⟨39, _⟩ => ⟨S8192x17, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S8192x256, .f32⟩
  | .local _ .vmem, ⟨5, _⟩ => ⟨S128x64, .f32⟩
  | .local _ .vmem, ⟨6, _⟩ => ⟨S64x512, .f32⟩
  | .local _ .vmem, ⟨7, _⟩ => ⟨S1x512, .f32⟩
  | .local _ .vmem, ⟨8, _⟩ => ⟨S128x512, .f32⟩
  | .local _ .vmem, ⟨9, _⟩ => ⟨S256x1024, .f32⟩
  | .local _ .vmem, ⟨10, _⟩ => ⟨S128x1024, .f32⟩
  | .local _ .vmem, ⟨11, _⟩ => ⟨S256x1024, .f32⟩
  | .local _ .vmem, ⟨12, _⟩ => ⟨S1x1024, .f32⟩
  | .local _ .vmem, ⟨13, _⟩ => ⟨S256x128, .f32⟩
  | .local _ .vmem, ⟨14, _⟩ => ⟨S1x128, .f32⟩
  | .local _ .vmem, ⟨15, _⟩ => ⟨S8192x1x128, .f32⟩
  | .local _ .vmem, ⟨16, _⟩ => ⟨S128x512, .f32⟩
  | .local _ .smem, ⟨0, _⟩ => ⟨S8192, .i32⟩
  | .local _ .smem, ⟨1, _⟩ => ⟨S8192, .i32⟩
  | .local _ .smem, ⟨2, _⟩ => ⟨S131072, .i32⟩
  | _, _ => ⟨S8192x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_scratch0 : Ref sig .tc := ⟨.vmem, 16, rfl⟩
abbrev cc1_stg0_0 : Ref sig .tc := ⟨.smem, 1, rfl⟩
abbrev cc1_stg1_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem13_0 : DmaSem sig := 17

abbrev nD : Nat := 1
abbrev τ : Topo := Topo.v7x

variable {F : FTy → Type} [FloatOps F]

abbrev grid0 : Pipeline.Grid := ⟨1, ![8192], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32 : BitVec 32 := 0#32
  let c8192_i32 : BitVec 32 := 8192#32
  let v13 : BitVec 32 := Scalar.addi c0_i32 c8192_i32
  let c1_i32 : BitVec 32 := 1#32
  ⟨c0_i32, v13, c1_i32⟩
def k1_off1 (k1_t1 : Fin k1_t1_loop.trips) : Fin 1 → Nat :=
  let c0_i32 : BitVec 32 := 0#32
  let c1_i32 : BitVec 32 := 1#32
  let arg15 : BitVec 32 := Scf.iv c0_i32 c1_i32 k1_t1
  let v15 : Index := Scalar.indexCast arg15
  ![v15.toNat]
@[reducible] def k1_t2_loop (v16 : BitVec 32) : Scf.Loop 32 :=
  let c0_i32_10 : BitVec 32 := 0#32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_12 : BitVec 32 := 1#32
  ⟨c0_i32_10, v22, c1_i32_12⟩

def k1_off2 (k1_t1 : Fin k1_t1_loop.trips) (v16 : BitVec 32) (k1_t2 : Fin (k1_t2_loop v16).trips) : Fin 1 → Nat :=
  let c0_i32 : BitVec 32 := 0#32
  let c1_i32 : BitVec 32 := 1#32
  let arg15 : BitVec 32 := Scf.iv c0_i32 c1_i32 k1_t1
  let c16_i32 : BitVec 32 := 16#32
  let v17 : BitVec 32 := Scalar.muli arg15 c16_i32
  let c0_i32_10 : BitVec 32 := 0#32
  let c1_i32_12 : BitVec 32 := 1#32
  let arg20 : BitVec 32 := Scf.iv c0_i32_10 c1_i32_12 k1_t2
  let v64 : BitVec 32 := Scalar.addi v17 arg20
  let v65 : Index := Scalar.indexCast v64
  ![v65.toNat]
def k1_off3 (v66 : BitVec 32) : Fin 2 → Nat :=
  let v67 : Index := Scalar.indexCast v66
  let c0_33 : Index := 0#32
  ![v67.toNat, 0]

def k1_chk2 (v66 : BitVec 32) : Prop :=
  (∀ a, (k1_off3 v66) a + S1x512.size a ≤ S128x512.size a)
theorem k1_off3_inb : ∀ (v66 : BitVec 32) (k1_hw2 : k1_chk2 v66), ∀ a, (k1_off3 v66) a + S1x512.size a ≤ S128x512.size a := fun v66 k1_hw2 => k1_hw2

@[reducible] def k1_t3_loop (v16 : BitVec 32) : Scf.Loop 32 :=
  let c0_i32_10 : BitVec 32 := 0#32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let v19 : BitVec 32 := Scalar.addi c0_i32_10 v18
  let c1_i32_13 : BitVec 32 := 1#32
  ⟨v22, v19, c1_i32_13⟩
def k1_off4 (k1_t1 : Fin k1_t1_loop.trips) (v16 : BitVec 32) (k1_t3 : Fin (k1_t3_loop v16).trips) : Fin 1 → Nat :=
  let c0_i32 : BitVec 32 := 0#32
  let c1_i32 : BitVec 32 := 1#32
  let arg15 : BitVec 32 := Scf.iv c0_i32 c1_i32 k1_t1
  let c16_i32 : BitVec 32 := 16#32
  let v17 : BitVec 32 := Scalar.muli arg15 c16_i32
  let c0_i32_10 : BitVec 32 := 0#32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_13 : BitVec 32 := 1#32
  let arg20 : BitVec 32 := Scf.iv v22 c1_i32_13 k1_t3
  let v64 : BitVec 32 := Scalar.addi v17 arg20
  let v65 : Index := Scalar.indexCast v64
  ![v65.toNat]

def k1_chk1 (k1_t1 : Fin k1_t1_loop.trips) (v16 : BitVec 32) : Prop :=
  ((k1_t2_loop v16).OK) ∧
  (∀ k1_t2 : Fin (k1_t2_loop v16).trips, ∀ a, (k1_off2 k1_t1 v16 k1_t2) a + S1.size a ≤ S131072.size a) ∧
  ((k1_t3_loop v16).OK) ∧
  (∀ k1_t3 : Fin (k1_t3_loop v16).trips, ∀ a, (k1_off4 k1_t1 v16 k1_t3) a + S1.size a ≤ S131072.size a)
theorem k1_t2_ok : ∀ (k1_t1 : Fin k1_t1_loop.trips) (v16 : BitVec 32) (k1_hw1 : k1_chk1 k1_t1 v16), (k1_t2_loop v16).OK := fun k1_t1 v16 k1_hw1 => k1_hw1.1
theorem k1_off2_inb : ∀ (k1_t1 : Fin k1_t1_loop.trips) (v16 : BitVec 32) (k1_hw1 : k1_chk1 k1_t1 v16) (k1_t2 : Fin (k1_t2_loop v16).trips), ∀ a, (k1_off2 k1_t1 v16 k1_t2) a + S1.size a ≤ S131072.size a := fun k1_t1 v16 k1_hw1 k1_t2 => k1_hw1.2.1 k1_t2
theorem k1_t3_ok : ∀ (k1_t1 : Fin k1_t1_loop.trips) (v16 : BitVec 32) (k1_hw1 : k1_chk1 k1_t1 v16), (k1_t3_loop v16).OK := fun k1_t1 v16 k1_hw1 => k1_hw1.2.2.1
theorem k1_off4_inb : ∀ (k1_t1 : Fin k1_t1_loop.trips) (v16 : BitVec 32) (k1_hw1 : k1_chk1 k1_t1 v16) (k1_t3 : Fin (k1_t3_loop v16).trips), ∀ a, (k1_off4 k1_t1 v16 k1_t3) a + S1.size a ≤ S131072.size a := fun k1_t1 v16 k1_hw1 k1_t3 => k1_hw1.2.2.2 k1_t3

def k1_off5 (v66 : BitVec 32) : Fin 2 → Nat :=
  let v67 : Index := Scalar.indexCast v66
  let c0_33 : Index := 0#32
  ![v67.toNat, 0]

def k1_chk3 (v66 : BitVec 32) : Prop :=
  (∀ a, (k1_off5 v66) a + S1x512.size a ≤ S128x512.size a)
theorem k1_off5_inb : ∀ (v66 : BitVec 32) (k1_hw3 : k1_chk3 v66), ∀ a, (k1_off5 v66) a + S1x512.size a ≤ S128x512.size a := fun v66 k1_hw3 => k1_hw3

def k1_off6 (k1_t1 : Fin k1_t1_loop.trips) : Fin 2 → Nat :=
  let c0_i32 : BitVec 32 := 0#32
  let c1_i32 : BitVec 32 := 1#32
  let arg15 : BitVec 32 := Scf.iv c0_i32 c1_i32 k1_t1
  let v25 : Index := Scalar.indexCast arg15
  let c0_14 : Index := 0#32
  ![v25.toNat, 0]
def k1_off7 (k1_t1 : Fin k1_t1_loop.trips) : Fin 3 → Nat :=
  let c0_i32 : BitVec 32 := 0#32
  let c1_i32 : BitVec 32 := 1#32
  let arg15 : BitVec 32 := Scf.iv c0_i32 c1_i32 k1_t1
  let v62 : Index := Scalar.indexCast arg15
  let c0_31 : Index := 0#32
  let c0_32 : Index := 0#32
  ![v62.toNat, 0, 0]
abbrev stage1_0 : Fin 1 → Memref sig .tc .smem S8192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S131072 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S256x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S256x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S8192x1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
-- ==== ReferenceIdeal.lean ====
abbrev S8192 : Shape := ⟨1, ![8192]⟩
abbrev S8192x16 : Shape := ⟨2, ![8192, 16]⟩
abbrev S100000x256 : Shape := ⟨2, ![100000, 256]⟩
abbrev S128x64 : Shape := ⟨2, ![128, 64]⟩
abbrev S512x64 : Shape := ⟨2, ![512, 64]⟩
abbrev S512x128 : Shape := ⟨2, ![512, 128]⟩
abbrev S512 : Shape := ⟨1, ![512]⟩
abbrev S1024x384 : Shape := ⟨2, ![1024, 384]⟩
abbrev S1024x256 : Shape := ⟨2, ![1024, 256]⟩
abbrev S1024 : Shape := ⟨1, ![1024]⟩
abbrev S17x256 : Shape := ⟨2, ![17, 256]⟩
abbrev S17 : Shape := ⟨1, ![17]⟩
abbrev S_ : Shape := ⟨0, ![]⟩
abbrev S8192x16x1 : Shape := ⟨3, ![8192, 16, 1]⟩
abbrev S8192x16x64 : Shape := ⟨3, ![8192, 16, 64]⟩
abbrev S8192x16x512 : Shape := ⟨3, ![8192, 16, 512]⟩
abbrev S1x1x512 : Shape := ⟨3, ![1, 1, 512]⟩
abbrev S8192x1 : Shape := ⟨2, ![8192, 1]⟩
abbrev S8192x256 : Shape := ⟨2, ![8192, 256]⟩
abbrev S16 : Shape := ⟨1, ![16]⟩
abbrev S128 : Shape := ⟨1, ![128]⟩
abbrev S256 : Shape := ⟨1, ![256]⟩
abbrev S8192x17 : Shape := ⟨2, ![8192, 17]⟩
abbrev S1x16x512 : Shape := ⟨3, ![1, 16, 512]⟩
abbrev S16x512 : Shape := ⟨2, ![16, 512]⟩
abbrev S1 : Shape := ⟨1, ![1]⟩
abbrev S1x256 : Shape := ⟨2, ![1, 256]⟩
abbrev S0x512 : Shape := ⟨2, ![0, 512]⟩
abbrev S0 : Shape := ⟨1, ![0]⟩
abbrev S1x512 : Shape := ⟨2, ![1, 512]⟩
abbrev S128x512 : Shape := ⟨2, ![128, 512]⟩
abbrev S384 : Shape := ⟨1, ![384]⟩
abbrev S384x1024 : Shape := ⟨2, ![384, 1024]⟩
abbrev S256x1024 : Shape := ⟨2, ![256, 1024]⟩
abbrev S256x17 : Shape := ⟨2, ![256, 17]⟩
abbrev S1x17 : Shape := ⟨2, ![1, 17]⟩

abbrev nBuf : Space → Nat
  | .hbm => 831
  | .vmem => 0
  | .smem => 0
  | _ => 0

abbrev hbmTy0_0 (i : Nat) : BufTy := match i % 128 with
  | 0 => ⟨S8192, .i32⟩
  | 1 => ⟨S8192x16, .i32⟩
  | 2 => ⟨S8192, .i32⟩
  | 3 => ⟨S100000x256, .f32⟩
  | 4 => ⟨S128x64, .f32⟩
  | 5 => ⟨S512x64, .f32⟩
  | 6 => ⟨S512x128, .f32⟩
  | 7 => ⟨S512, .f32⟩
  | 8 => ⟨S1024x384, .f32⟩
  | 9 => ⟨S1024x256, .f32⟩
  | 10 => ⟨S1024, .f32⟩
  | 11 => ⟨S17x256, .f32⟩
  | 12 => ⟨S17, .f32⟩
  | 13 => ⟨S_, .i32⟩
  | 14 => ⟨S8192x16, .i32⟩
  | 15 => ⟨S8192x16, .i1⟩
  | 16 => ⟨S_, .i32⟩
  | 17 => ⟨S8192x16, .i32⟩
  | 18 => ⟨S8192x16, .i32⟩
  | 19 => ⟨S8192x16, .i32⟩
  | 20 => ⟨S8192x16x1, .i32⟩
  | 21 => ⟨S8192x16x64, .f32⟩
  | 22 => ⟨S8192x16x512, .f32⟩
  | 23 => ⟨S1x1x512, .f32⟩
  | 24 => ⟨S8192x16x512, .f32⟩
  | 25 => ⟨S8192x16x512, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x256, .f32⟩
  | 35 => ⟨S16, .i32⟩
  | 36 => ⟨S_, .f32⟩
  | 37 => ⟨S128, .f32⟩
  | 38 => ⟨S_, .f32⟩
  | 39 => ⟨S128, .f32⟩
  | 40 => ⟨S_, .f32⟩
  | 41 => ⟨S256, .f32⟩
  | 42 => ⟨S_, .f32⟩
  | 43 => ⟨S256, .f32⟩
  | 44 => ⟨S_, .f32⟩
  | 45 => ⟨S8192x17, .f32⟩
  | 46 => ⟨S_, .i32⟩
  | 47 => ⟨S8192x16x512, .f32⟩
  | 48 => ⟨S8192, .i32⟩
  | 49 => ⟨S8192x256, .f32⟩
  | 50 => ⟨S512x128, .f32⟩
  | 51 => ⟨S16, .i32⟩
  | 52 => ⟨S1024x384, .f32⟩
  | 53 => ⟨S1024, .f32⟩
  | 54 => ⟨S1024x256, .f32⟩
  | 55 => ⟨S17x256, .f32⟩
  | 56 => ⟨S17, .f32⟩
  | 57 => ⟨S_, .i32⟩
  | 58 => ⟨S128, .f32⟩
  | 59 => ⟨S128, .f32⟩
  | 60 => ⟨S256, .f32⟩
  | 61 => ⟨S256, .f32⟩
  | 62 => ⟨S8192x17, .f32⟩
  | 63 => ⟨S_, .i32⟩
  | 64 => ⟨S_, .i1⟩
  | 65 => ⟨S_, .i32⟩
  | 66 => ⟨S_, .i32⟩
  | 67 => ⟨S1x16x512, .f32⟩
  | 68 => ⟨S16x512, .f32⟩
  | 69 => ⟨S1, .i32⟩
  | 70 => ⟨S_, .i32⟩
  | 71 => ⟨S_, .i32⟩
  | 72 => ⟨S1x256, .f32⟩
  | 73 => ⟨S256, .f32⟩
  | 74 => ⟨S0x512, .f32⟩
  | 75 => ⟨S16x512, .f32⟩
  | 76 => ⟨S0, .i32⟩
  | 77 => ⟨S16, .i32⟩
  | 78 => ⟨S1x512, .f32⟩
  | 79 => ⟨S512, .f32⟩
  | 80 => ⟨S1, .i32⟩
  | 81 => ⟨S_, .i32⟩
  | 82 => ⟨S128x512, .f32⟩
  | 83 => ⟨S512, .f32⟩
  | 84 => ⟨S512, .f32⟩
  | 85 => ⟨S128, .f32⟩
  | 86 => ⟨S128, .f32⟩
  | 87 => ⟨S128, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S128, .f32⟩
  | 109 => ⟨S128, .f32⟩
  | 110 => ⟨S128, .f32⟩
  | 111 => ⟨S_, .f32⟩
  | 112 => ⟨S128, .f32⟩
  | 113 => ⟨S128, .f32⟩
  | 114 => ⟨S_, .f32⟩
  | 115 => ⟨S128, .f32⟩
  | 116 => ⟨S128, .f32⟩
  | 117 => ⟨S128, .f32⟩
  | 118 => ⟨S128, .f32⟩
  | 119 => ⟨S_, .i1⟩
  | 120 => ⟨S128, .f32⟩
  | 121 => ⟨S128, .f32⟩
  | 122 => ⟨S1x512, .f32⟩
  | 123 => ⟨S512, .f32⟩
  | 124 => ⟨S1, .i32⟩
  | 125 => ⟨S_, .i32⟩
  | 126 => ⟨S128x512, .f32⟩
  | 127 => ⟨S512, .f32⟩
  | _ => ⟨S8192, .i32⟩

abbrev hbmTy0_1 (i : Nat) : BufTy := match i % 128 with
  | 0 => ⟨S512, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S128, .f32⟩
  | 35 => ⟨S_, .i1⟩
  | 36 => ⟨S128, .f32⟩
  | 37 => ⟨S128, .f32⟩
  | 38 => ⟨S1x512, .f32⟩
  | 39 => ⟨S512, .f32⟩
  | 40 => ⟨S1, .i32⟩
  | 41 => ⟨S_, .i32⟩
  | 42 => ⟨S128x512, .f32⟩
  | 43 => ⟨S512, .f32⟩
  | 44 => ⟨S512, .f32⟩
  | 45 => ⟨S128, .f32⟩
  | 46 => ⟨S128, .f32⟩
  | 47 => ⟨S128, .f32⟩
  | 48 => ⟨S128, .f32⟩
  | 49 => ⟨S128, .f32⟩
  | 50 => ⟨S128, .f32⟩
  | 51 => ⟨S_, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S128, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S128, .f32⟩
  | 79 => ⟨S_, .i1⟩
  | 80 => ⟨S128, .f32⟩
  | 81 => ⟨S128, .f32⟩
  | 82 => ⟨S1x512, .f32⟩
  | 83 => ⟨S512, .f32⟩
  | 84 => ⟨S1, .i32⟩
  | 85 => ⟨S_, .i32⟩
  | 86 => ⟨S128x512, .f32⟩
  | 87 => ⟨S512, .f32⟩
  | 88 => ⟨S512, .f32⟩
  | 89 => ⟨S128, .f32⟩
  | 90 => ⟨S128, .f32⟩
  | 91 => ⟨S128, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S_, .f32⟩
  | 99 => ⟨S128, .f32⟩
  | 100 => ⟨S128, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S128, .f32⟩
  | 113 => ⟨S128, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S_, .i1⟩
  | 124 => ⟨S128, .f32⟩
  | 125 => ⟨S128, .f32⟩
  | 126 => ⟨S1x512, .f32⟩
  | 127 => ⟨S512, .f32⟩
  | _ => ⟨S8192, .i32⟩

abbrev hbmTy0_2 (i : Nat) : BufTy := match i % 128 with
  | 0 => ⟨S1, .i32⟩
  | 1 => ⟨S_, .i32⟩
  | 2 => ⟨S128x512, .f32⟩
  | 3 => ⟨S512, .f32⟩
  | 4 => ⟨S512, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S128, .f32⟩
  | 38 => ⟨S128, .f32⟩
  | 39 => ⟨S_, .i1⟩
  | 40 => ⟨S128, .f32⟩
  | 41 => ⟨S128, .f32⟩
  | 42 => ⟨S1x512, .f32⟩
  | 43 => ⟨S512, .f32⟩
  | 44 => ⟨S1, .i32⟩
  | 45 => ⟨S_, .i32⟩
  | 46 => ⟨S128x512, .f32⟩
  | 47 => ⟨S512, .f32⟩
  | 48 => ⟨S512, .f32⟩
  | 49 => ⟨S128, .f32⟩
  | 50 => ⟨S128, .f32⟩
  | 51 => ⟨S128, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S128, .f32⟩
  | 64 => ⟨S_, .f32⟩
  | 65 => ⟨S128, .f32⟩
  | 66 => ⟨S128, .f32⟩
  | 67 => ⟨S_, .f32⟩
  | 68 => ⟨S128, .f32⟩
  | 69 => ⟨S128, .f32⟩
  | 70 => ⟨S128, .f32⟩
  | 71 => ⟨S128, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S_, .i1⟩
  | 84 => ⟨S128, .f32⟩
  | 85 => ⟨S128, .f32⟩
  | 86 => ⟨S1x512, .f32⟩
  | 87 => ⟨S512, .f32⟩
  | 88 => ⟨S1, .i32⟩
  | 89 => ⟨S_, .i32⟩
  | 90 => ⟨S128x512, .f32⟩
  | 91 => ⟨S512, .f32⟩
  | 92 => ⟨S512, .f32⟩
  | 93 => ⟨S128, .f32⟩
  | 94 => ⟨S128, .f32⟩
  | 95 => ⟨S128, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S_, .f32⟩
  | 103 => ⟨S128, .f32⟩
  | 104 => ⟨S128, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S_, .f32⟩
  | 112 => ⟨S128, .f32⟩
  | 113 => ⟨S128, .f32⟩
  | 114 => ⟨S128, .f32⟩
  | 115 => ⟨S128, .f32⟩
  | 116 => ⟨S128, .f32⟩
  | 117 => ⟨S128, .f32⟩
  | 118 => ⟨S128, .f32⟩
  | 119 => ⟨S_, .f32⟩
  | 120 => ⟨S128, .f32⟩
  | 121 => ⟨S128, .f32⟩
  | 122 => ⟨S_, .f32⟩
  | 123 => ⟨S128, .f32⟩
  | 124 => ⟨S128, .f32⟩
  | 125 => ⟨S128, .f32⟩
  | 126 => ⟨S128, .f32⟩
  | 127 => ⟨S_, .i1⟩
  | _ => ⟨S8192, .i32⟩

abbrev hbmTy0_3 (i : Nat) : BufTy := match i % 128 with
  | 0 => ⟨S128, .f32⟩
  | 1 => ⟨S128, .f32⟩
  | 2 => ⟨S1x512, .f32⟩
  | 3 => ⟨S512, .f32⟩
  | 4 => ⟨S1, .i32⟩
  | 5 => ⟨S_, .i32⟩
  | 6 => ⟨S128x512, .f32⟩
  | 7 => ⟨S512, .f32⟩
  | 8 => ⟨S512, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S128, .f32⟩
  | 22 => ⟨S128, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S_, .i1⟩
  | 44 => ⟨S128, .f32⟩
  | 45 => ⟨S128, .f32⟩
  | 46 => ⟨S1x512, .f32⟩
  | 47 => ⟨S512, .f32⟩
  | 48 => ⟨S1, .i32⟩
  | 49 => ⟨S_, .i32⟩
  | 50 => ⟨S128x512, .f32⟩
  | 51 => ⟨S512, .f32⟩
  | 52 => ⟨S512, .f32⟩
  | 53 => ⟨S128, .f32⟩
  | 54 => ⟨S128, .f32⟩
  | 55 => ⟨S128, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S128, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S128, .f32⟩
  | 76 => ⟨S128, .f32⟩
  | 77 => ⟨S128, .f32⟩
  | 78 => ⟨S128, .f32⟩
  | 79 => ⟨S_, .f32⟩
  | 80 => ⟨S128, .f32⟩
  | 81 => ⟨S128, .f32⟩
  | 82 => ⟨S_, .f32⟩
  | 83 => ⟨S128, .f32⟩
  | 84 => ⟨S128, .f32⟩
  | 85 => ⟨S128, .f32⟩
  | 86 => ⟨S128, .f32⟩
  | 87 => ⟨S_, .i1⟩
  | 88 => ⟨S128, .f32⟩
  | 89 => ⟨S128, .f32⟩
  | 90 => ⟨S1x512, .f32⟩
  | 91 => ⟨S512, .f32⟩
  | 92 => ⟨S1, .i32⟩
  | 93 => ⟨S_, .i32⟩
  | 94 => ⟨S128x512, .f32⟩
  | 95 => ⟨S512, .f32⟩
  | 96 => ⟨S512, .f32⟩
  | 97 => ⟨S128, .f32⟩
  | 98 => ⟨S128, .f32⟩
  | 99 => ⟨S128, .f32⟩
  | 100 => ⟨S128, .f32⟩
  | 101 => ⟨S128, .f32⟩
  | 102 => ⟨S128, .f32⟩
  | 103 => ⟨S_, .f32⟩
  | 104 => ⟨S128, .f32⟩
  | 105 => ⟨S128, .f32⟩
  | 106 => ⟨S_, .f32⟩
  | 107 => ⟨S128, .f32⟩
  | 108 => ⟨S128, .f32⟩
  | 109 => ⟨S128, .f32⟩
  | 110 => ⟨S128, .f32⟩
  | 111 => ⟨S128, .f32⟩
  | 112 => ⟨S_, .f32⟩
  | 113 => ⟨S128, .f32⟩
  | 114 => ⟨S128, .f32⟩
  | 115 => ⟨S_, .f32⟩
  | 116 => ⟨S128, .f32⟩
  | 117 => ⟨S128, .f32⟩
  | 118 => ⟨S128, .f32⟩
  | 119 => ⟨S128, .f32⟩
  | 120 => ⟨S128, .f32⟩
  | 121 => ⟨S128, .f32⟩
  | 122 => ⟨S128, .f32⟩
  | 123 => ⟨S_, .f32⟩
  | 124 => ⟨S128, .f32⟩
  | 125 => ⟨S128, .f32⟩
  | 126 => ⟨S_, .f32⟩
  | 127 => ⟨S128, .f32⟩
  | _ => ⟨S8192, .i32⟩

abbrev hbmTy0_4 (i : Nat) : BufTy := match i % 128 with
  | 0 => ⟨S128, .f32⟩
  | 1 => ⟨S128, .f32⟩
  | 2 => ⟨S128, .f32⟩
  | 3 => ⟨S_, .i1⟩
  | 4 => ⟨S128, .f32⟩
  | 5 => ⟨S128, .f32⟩
  | 6 => ⟨S1x512, .f32⟩
  | 7 => ⟨S512, .f32⟩
  | 8 => ⟨S1, .i32⟩
  | 9 => ⟨S_, .i32⟩
  | 10 => ⟨S128x512, .f32⟩
  | 11 => ⟨S512, .f32⟩
  | 12 => ⟨S512, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S_, .f32⟩
  | 20 => ⟨S128, .f32⟩
  | 21 => ⟨S128, .f32⟩
  | 22 => ⟨S_, .f32⟩
  | 23 => ⟨S128, .f32⟩
  | 24 => ⟨S128, .f32⟩
  | 25 => ⟨S128, .f32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S128, .f32⟩
  | 35 => ⟨S128, .f32⟩
  | 36 => ⟨S128, .f32⟩
  | 37 => ⟨S128, .f32⟩
  | 38 => ⟨S128, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S_, .i1⟩
  | 48 => ⟨S128, .f32⟩
  | 49 => ⟨S128, .f32⟩
  | 50 => ⟨S1x512, .f32⟩
  | 51 => ⟨S512, .f32⟩
  | 52 => ⟨S1, .i32⟩
  | 53 => ⟨S_, .i32⟩
  | 54 => ⟨S128x512, .f32⟩
  | 55 => ⟨S512, .f32⟩
  | 56 => ⟨S512, .f32⟩
  | 57 => ⟨S128, .f32⟩
  | 58 => ⟨S128, .f32⟩
  | 59 => ⟨S128, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S128, .f32⟩
  | 72 => ⟨S_, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S128, .f32⟩
  | 80 => ⟨S128, .f32⟩
  | 81 => ⟨S128, .f32⟩
  | 82 => ⟨S128, .f32⟩
  | 83 => ⟨S_, .f32⟩
  | 84 => ⟨S128, .f32⟩
  | 85 => ⟨S128, .f32⟩
  | 86 => ⟨S_, .f32⟩
  | 87 => ⟨S128, .f32⟩
  | 88 => ⟨S128, .f32⟩
  | 89 => ⟨S128, .f32⟩
  | 90 => ⟨S128, .f32⟩
  | 91 => ⟨S_, .i1⟩
  | 92 => ⟨S128, .f32⟩
  | 93 => ⟨S128, .f32⟩
  | 94 => ⟨S1x512, .f32⟩
  | 95 => ⟨S512, .f32⟩
  | 96 => ⟨S1, .i32⟩
  | 97 => ⟨S_, .i32⟩
  | 98 => ⟨S128x512, .f32⟩
  | 99 => ⟨S512, .f32⟩
  | 100 => ⟨S512, .f32⟩
  | 101 => ⟨S128, .f32⟩
  | 102 => ⟨S128, .f32⟩
  | 103 => ⟨S128, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S128, .f32⟩
  | 116 => ⟨S_, .f32⟩
  | 117 => ⟨S128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S128, .f32⟩
  | 125 => ⟨S128, .f32⟩
  | 126 => ⟨S128, .f32⟩
  | 127 => ⟨S_, .f32⟩
  | _ => ⟨S8192, .i32⟩

abbrev hbmTy0_5 (i : Nat) : BufTy := match i % 128 with
  | 0 => ⟨S128, .f32⟩
  | 1 => ⟨S128, .f32⟩
  | 2 => ⟨S_, .f32⟩
  | 3 => ⟨S128, .f32⟩
  | 4 => ⟨S128, .f32⟩
  | 5 => ⟨S128, .f32⟩
  | 6 => ⟨S128, .f32⟩
  | 7 => ⟨S_, .i1⟩
  | 8 => ⟨S128, .f32⟩
  | 9 => ⟨S128, .f32⟩
  | 10 => ⟨S1x512, .f32⟩
  | 11 => ⟨S512, .f32⟩
  | 12 => ⟨S1, .i32⟩
  | 13 => ⟨S_, .i32⟩
  | 14 => ⟨S128x512, .f32⟩
  | 15 => ⟨S512, .f32⟩
  | 16 => ⟨S512, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S_, .f32⟩
  | 24 => ⟨S128, .f32⟩
  | 25 => ⟨S128, .f32⟩
  | 26 => ⟨S_, .f32⟩
  | 27 => ⟨S128, .f32⟩
  | 28 => ⟨S128, .f32⟩
  | 29 => ⟨S128, .f32⟩
  | 30 => ⟨S128, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S128, .f32⟩
  | 39 => ⟨S128, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S128, .f32⟩
  | 51 => ⟨S_, .i1⟩
  | 52 => ⟨S128, .f32⟩
  | 53 => ⟨S128, .f32⟩
  | 54 => ⟨S1x512, .f32⟩
  | 55 => ⟨S512, .f32⟩
  | 56 => ⟨S1, .i32⟩
  | 57 => ⟨S_, .i32⟩
  | 58 => ⟨S128x512, .f32⟩
  | 59 => ⟨S512, .f32⟩
  | 60 => ⟨S512, .f32⟩
  | 61 => ⟨S128, .f32⟩
  | 62 => ⟨S128, .f32⟩
  | 63 => ⟨S128, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S128, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S_, .f32⟩
  | 91 => ⟨S128, .f32⟩
  | 92 => ⟨S128, .f32⟩
  | 93 => ⟨S128, .f32⟩
  | 94 => ⟨S128, .f32⟩
  | 95 => ⟨S_, .i1⟩
  | 96 => ⟨S128, .f32⟩
  | 97 => ⟨S128, .f32⟩
  | 98 => ⟨S1x512, .f32⟩
  | 99 => ⟨S512, .f32⟩
  | 100 => ⟨S1, .i32⟩
  | 101 => ⟨S_, .i32⟩
  | 102 => ⟨S128x512, .f32⟩
  | 103 => ⟨S512, .f32⟩
  | 104 => ⟨S512, .f32⟩
  | 105 => ⟨S128, .f32⟩
  | 106 => ⟨S128, .f32⟩
  | 107 => ⟨S128, .f32⟩
  | 108 => ⟨S128, .f32⟩
  | 109 => ⟨S128, .f32⟩
  | 110 => ⟨S128, .f32⟩
  | 111 => ⟨S_, .f32⟩
  | 112 => ⟨S128, .f32⟩
  | 113 => ⟨S128, .f32⟩
  | 114 => ⟨S_, .f32⟩
  | 115 => ⟨S128, .f32⟩
  | 116 => ⟨S128, .f32⟩
  | 117 => ⟨S128, .f32⟩
  | 118 => ⟨S128, .f32⟩
  | 119 => ⟨S128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S8192, .i32⟩

abbrev hbmTy0_6 (i : Nat) : BufTy := match i % 128 with
  | 0 => ⟨S128, .f32⟩
  | 1 => ⟨S128, .f32⟩
  | 2 => ⟨S128, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S_, .i1⟩
  | 12 => ⟨S128, .f32⟩
  | 13 => ⟨S128, .f32⟩
  | 14 => ⟨S384, .f32⟩
  | 15 => ⟨S384x1024, .f32⟩
  | 16 => ⟨S1024, .f32⟩
  | 17 => ⟨S1024, .f32⟩
  | 18 => ⟨S256x1024, .f32⟩
  | 19 => ⟨S1024, .f32⟩
  | 20 => ⟨S1024, .f32⟩
  | 21 => ⟨S256, .f32⟩
  | 22 => ⟨S256, .f32⟩
  | 23 => ⟨S256, .f32⟩
  | 24 => ⟨S256, .f32⟩
  | 25 => ⟨S256, .f32⟩
  | 26 => ⟨S256, .f32⟩
  | 27 => ⟨S_, .f32⟩
  | 28 => ⟨S256, .f32⟩
  | 29 => ⟨S256, .f32⟩
  | 30 => ⟨S_, .f32⟩
  | 31 => ⟨S256, .f32⟩
  | 32 => ⟨S256, .f32⟩
  | 33 => ⟨S256, .f32⟩
  | 34 => ⟨S256, .f32⟩
  | 35 => ⟨S256, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S256, .f32⟩
  | 43 => ⟨S256, .f32⟩
  | 44 => ⟨S256, .f32⟩
  | 45 => ⟨S256, .f32⟩
  | 46 => ⟨S256, .f32⟩
  | 47 => ⟨S_, .f32⟩
  | 48 => ⟨S256, .f32⟩
  | 49 => ⟨S256, .f32⟩
  | 50 => ⟨S_, .f32⟩
  | 51 => ⟨S256, .f32⟩
  | 52 => ⟨S256, .f32⟩
  | 53 => ⟨S256, .f32⟩
  | 54 => ⟨S256, .f32⟩
  | 55 => ⟨S256x17, .f32⟩
  | 56 => ⟨S17, .f32⟩
  | 57 => ⟨S17, .f32⟩
  | 58 => ⟨S1x17, .f32⟩
  | 59 => ⟨S_, .i32⟩
  | 60 => ⟨S8192x17, .f32⟩
  | 61 => ⟨S_, .i32⟩
  | 62 => ⟨S_, .i32⟩
  | _ => ⟨S8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_c_7 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev main_v24_3 : Ref sig .tc := ⟨.hbm, 50, rfl⟩
abbrev main_v24_4 : Ref sig .tc := ⟨.hbm, 51, rfl⟩
abbrev main_v24_5 : Ref sig .tc := ⟨.hbm, 52, rfl⟩
abbrev main_v24_6 : Ref sig .tc := ⟨.hbm, 53, rfl⟩
abbrev main_v24_7 : Ref sig .tc := ⟨.hbm, 54, rfl⟩
abbrev main_v24_8 : Ref sig .tc := ⟨.hbm, 55, rfl⟩
abbrev main_v24_9 : Ref sig .tc := ⟨.hbm, 56, rfl⟩
abbrev main_v24_10 : Ref sig .tc := ⟨.hbm, 57, rfl⟩
abbrev main_v24_11 : Ref sig .tc := ⟨.hbm, 58, rfl⟩
abbrev main_v24_12 : Ref sig .tc := ⟨.hbm, 59, rfl⟩
abbrev main_v24_13 : Ref sig .tc := ⟨.hbm, 60, rfl⟩
abbrev main_v24_14 : Ref sig .tc := ⟨.hbm, 61, rfl⟩
abbrev main_v24_15 : Ref sig .tc := ⟨.hbm, 62, rfl⟩
abbrev main_while0c_c_23 : Ref sig .tc := ⟨.hbm, 63, rfl⟩
abbrev main_while0c_v25 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_v0 : Ref sig .tc := ⟨.hbm, 67, rfl⟩
abbrev main_while0b_v25 : Ref sig .tc := ⟨.hbm, 68, rfl⟩
abbrev main_while0b_call1_v0 : Ref sig .tc := ⟨.hbm, 69, rfl⟩
abbrev main_while0b_v26 : Ref sig .tc := ⟨.hbm, 70, rfl⟩
abbrev main_while0b_call2_c : Ref sig .tc := ⟨.hbm, 71, rfl⟩
abbrev main_while0b_call2_v0 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_v36 : Ref sig .tc := ⟨.hbm, 82, rfl⟩
abbrev main_while0b_v37 : Ref sig .tc := ⟨.hbm, 83, rfl⟩
abbrev main_while0b_v38 : Ref sig .tc := ⟨.hbm, 84, rfl⟩
abbrev main_while0b_v39 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_cst_23 : Ref sig .tc := ⟨.hbm, 91, rfl⟩
abbrev main_while0b_v45 : Ref sig .tc := ⟨.hbm, 92, rfl⟩
abbrev main_while0b_v46 : Ref sig .tc := ⟨.hbm, 93, rfl⟩
abbrev main_while0b_cst_24 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_cst_25 : Ref sig .tc := ⟨.hbm, 100, rfl⟩
abbrev main_while0b_v52 : Ref sig .tc := ⟨.hbm, 101, rfl⟩
abbrev main_while0b_v53 : Ref sig .tc := ⟨.hbm, 102, rfl⟩
abbrev main_while0b_cst_26 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_cst_27 : Ref sig .tc := ⟨.hbm, 111, rfl⟩
abbrev main_while0b_v61 : Ref sig .tc := ⟨.hbm, 112, rfl⟩
abbrev main_while0b_v62 : Ref sig .tc := ⟨.hbm, 113, rfl⟩
abbrev main_while0b_cst_28 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_v72 : Ref sig .tc := ⟨.hbm, 124, rfl⟩
abbrev main_while0b_v73 : Ref sig .tc := ⟨.hbm, 125, rfl⟩
abbrev main_while0b_v74 : Ref sig .tc := ⟨.hbm, 126, rfl⟩
abbrev main_while0b_v75 : Ref sig .tc := ⟨.hbm, 127, rfl⟩
abbrev main_while0b_v76 : Ref sig .tc := ⟨.hbm, 128, rfl⟩
abbrev main_while0b_v77 : Ref sig .tc := ⟨.hbm, 129, rfl⟩
abbrev main_while0b_v78 : Ref sig .tc := ⟨.hbm, 130, rfl⟩
abbrev main_while0b_v79 : Ref sig .tc := ⟨.hbm, 131, rfl⟩
abbrev main_while0b_v80 : Ref sig .tc := ⟨.hbm, 132, rfl⟩
abbrev main_while0b_v81 : Ref sig .tc := ⟨.hbm, 133, rfl⟩
abbrev main_while0b_v82 : Ref sig .tc := ⟨.hbm, 134, rfl⟩
abbrev main_while0b_cst_29 : Ref sig .tc := ⟨.hbm, 135, rfl⟩
abbrev main_while0b_v83 : Ref sig .tc := ⟨.hbm, 136, rfl⟩
abbrev main_while0b_v84 : Ref sig .tc := ⟨.hbm, 137, rfl⟩
abbrev main_while0b_cst_30 : Ref sig .tc := ⟨.hbm, 138, rfl⟩
abbrev main_while0b_v85 : Ref sig .tc := ⟨.hbm, 139, rfl⟩
abbrev main_while0b_v86 : Ref sig .tc := ⟨.hbm, 140, rfl⟩
abbrev main_while0b_v87 : Ref sig .tc := ⟨.hbm, 141, rfl⟩
abbrev main_while0b_v88 : Ref sig .tc := ⟨.hbm, 142, rfl⟩
abbrev main_while0b_v89 : Ref sig .tc := ⟨.hbm, 143, rfl⟩
abbrev main_while0b_cst_31 : Ref sig .tc := ⟨.hbm, 144, rfl⟩
abbrev main_while0b_v90 : Ref sig .tc := ⟨.hbm, 145, rfl⟩
abbrev main_while0b_v91 : Ref sig .tc := ⟨.hbm, 146, rfl⟩
abbrev main_while0b_cst_32 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_v96 : Ref sig .tc := ⟨.hbm, 152, rfl⟩
abbrev main_while0b_v97 : Ref sig .tc := ⟨.hbm, 153, rfl⟩
abbrev main_while0b_v98 : Ref sig .tc := ⟨.hbm, 154, rfl⟩
abbrev main_while0b_cst_33 : Ref sig .tc := ⟨.hbm, 155, rfl⟩
abbrev main_while0b_v99 : Ref sig .tc := ⟨.hbm, 156, rfl⟩
abbrev main_while0b_v100 : Ref sig .tc := ⟨.hbm, 157, rfl⟩
abbrev main_while0b_cst_34 : Ref sig .tc := ⟨.hbm, 158, rfl⟩
abbrev main_while0b_v101 : Ref sig .tc := ⟨.hbm, 159, rfl⟩
abbrev main_while0b_v102 : Ref sig .tc := ⟨.hbm, 160, rfl⟩
abbrev main_while0b_v103 : Ref sig .tc := ⟨.hbm, 161, rfl⟩
abbrev main_while0b_v104 : Ref sig .tc := ⟨.hbm, 162, rfl⟩
abbrev main_while0b_v105 : Ref sig .tc := ⟨.hbm, 163, rfl⟩
abbrev main_while0b_v106 : Ref sig .tc := ⟨.hbm, 164, rfl⟩
abbrev main_while0b_v107 : Ref sig .tc := ⟨.hbm, 165, rfl⟩
abbrev main_while0b_v108 : Ref sig .tc := ⟨.hbm, 166, rfl⟩
abbrev main_while0b_v109 : Ref sig .tc := ⟨.hbm, 167, rfl⟩
abbrev main_while0b_v110 : Ref sig .tc := ⟨.hbm, 168, rfl⟩
abbrev main_while0b_v111 : Ref sig .tc := ⟨.hbm, 169, rfl⟩
abbrev main_while0b_v112 : Ref sig .tc := ⟨.hbm, 170, rfl⟩
abbrev main_while0b_v113 : Ref sig .tc := ⟨.hbm, 171, rfl⟩
abbrev main_while0b_v114 : Ref sig .tc := ⟨.hbm, 172, rfl⟩
abbrev main_while0b_v115 : Ref sig .tc := ⟨.hbm, 173, rfl⟩
abbrev main_while0b_v116 : Ref sig .tc := ⟨.hbm, 174, rfl⟩
abbrev main_while0b_v117 : Ref sig .tc := ⟨.hbm, 175, rfl⟩
abbrev main_while0b_v118 : Ref sig .tc := ⟨.hbm, 176, rfl⟩
abbrev main_while0b_v119 : Ref sig .tc := ⟨.hbm, 177, rfl⟩
abbrev main_while0b_v120 : Ref sig .tc := ⟨.hbm, 178, rfl⟩
abbrev main_while0b_cst_35 : Ref sig .tc := ⟨.hbm, 179, rfl⟩
abbrev main_while0b_v121 : Ref sig .tc := ⟨.hbm, 180, rfl⟩
abbrev main_while0b_v122 : Ref sig .tc := ⟨.hbm, 181, rfl⟩
abbrev main_while0b_cst_36 : Ref sig .tc := ⟨.hbm, 182, rfl⟩
abbrev main_while0b_v123 : Ref sig .tc := ⟨.hbm, 183, rfl⟩
abbrev main_while0b_v124 : Ref sig .tc := ⟨.hbm, 184, rfl⟩
abbrev main_while0b_v125 : Ref sig .tc := ⟨.hbm, 185, rfl⟩
abbrev main_while0b_v126 : Ref sig .tc := ⟨.hbm, 186, rfl⟩
abbrev main_while0b_v127 : Ref sig .tc := ⟨.hbm, 187, rfl⟩
abbrev main_while0b_cst_37 : Ref sig .tc := ⟨.hbm, 188, rfl⟩
abbrev main_while0b_v128 : Ref sig .tc := ⟨.hbm, 189, rfl⟩
abbrev main_while0b_v129 : Ref sig .tc := ⟨.hbm, 190, rfl⟩
abbrev main_while0b_cst_38 : Ref sig .tc := ⟨.hbm, 191, rfl⟩
abbrev main_while0b_v130 : Ref sig .tc := ⟨.hbm, 192, rfl⟩
abbrev main_while0b_v131 : Ref sig .tc := ⟨.hbm, 193, rfl⟩
abbrev main_while0b_v132 : Ref sig .tc := ⟨.hbm, 194, rfl⟩
abbrev main_while0b_v133 : Ref sig .tc := ⟨.hbm, 195, rfl⟩
abbrev main_while0b_v134 : Ref sig .tc := ⟨.hbm, 196, rfl⟩
abbrev main_while0b_v135 : Ref sig .tc := ⟨.hbm, 197, rfl⟩
abbrev main_while0b_v136 : Ref sig .tc := ⟨.hbm, 198, rfl⟩
abbrev main_while0b_cst_39 : Ref sig .tc := ⟨.hbm, 199, rfl⟩
abbrev main_while0b_v137 : Ref sig .tc := ⟨.hbm, 200, rfl⟩
abbrev main_while0b_v138 : Ref sig .tc := ⟨.hbm, 201, rfl⟩
abbrev main_while0b_cst_40 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_v142 : Ref sig .tc := ⟨.hbm, 206, rfl⟩
abbrev main_while0b_v143 : Ref sig .tc := ⟨.hbm, 207, rfl⟩
abbrev main_while0b_v144 : Ref sig .tc := ⟨.hbm, 208, rfl⟩
abbrev main_while0b_v145 : Ref sig .tc := ⟨.hbm, 209, rfl⟩
abbrev main_while0b_v146 : Ref sig .tc := ⟨.hbm, 210, rfl⟩
abbrev main_while0b_v147 : Ref sig .tc := ⟨.hbm, 211, rfl⟩
abbrev main_while0b_v148 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_v156 : Ref sig .tc := ⟨.hbm, 220, rfl⟩
abbrev main_while0b_v157 : Ref sig .tc := ⟨.hbm, 221, rfl⟩
abbrev main_while0b_v158 : Ref sig .tc := ⟨.hbm, 222, rfl⟩
abbrev main_while0b_cst_41 : Ref sig .tc := ⟨.hbm, 223, rfl⟩
abbrev main_while0b_v159 : Ref sig .tc := ⟨.hbm, 224, rfl⟩
abbrev main_while0b_v160 : Ref sig .tc := ⟨.hbm, 225, rfl⟩
abbrev main_while0b_cst_42 : Ref sig .tc := ⟨.hbm, 226, rfl⟩
abbrev main_while0b_v161 : Ref sig .tc := ⟨.hbm, 227, rfl⟩
abbrev main_while0b_v162 : Ref sig .tc := ⟨.hbm, 228, rfl⟩
abbrev main_while0b_v163 : Ref sig .tc := ⟨.hbm, 229, rfl⟩
abbrev main_while0b_v164 : Ref sig .tc := ⟨.hbm, 230, rfl⟩
abbrev main_while0b_v165 : Ref sig .tc := ⟨.hbm, 231, rfl⟩
abbrev main_while0b_cst_43 : Ref sig .tc := ⟨.hbm, 232, rfl⟩
abbrev main_while0b_v166 : Ref sig .tc := ⟨.hbm, 233, rfl⟩
abbrev main_while0b_v167 : Ref sig .tc := ⟨.hbm, 234, rfl⟩
abbrev main_while0b_cst_44 : Ref sig .tc := ⟨.hbm, 235, rfl⟩
abbrev main_while0b_v168 : Ref sig .tc := ⟨.hbm, 236, rfl⟩
abbrev main_while0b_v169 : Ref sig .tc := ⟨.hbm, 237, rfl⟩
abbrev main_while0b_v170 : Ref sig .tc := ⟨.hbm, 238, rfl⟩
abbrev main_while0b_v171 : Ref sig .tc := ⟨.hbm, 239, rfl⟩
abbrev main_while0b_v172 : Ref sig .tc := ⟨.hbm, 240, rfl⟩
abbrev main_while0b_v173 : Ref sig .tc := ⟨.hbm, 241, rfl⟩
abbrev main_while0b_v174 : Ref sig .tc := ⟨.hbm, 242, rfl⟩
abbrev main_while0b_cst_45 : Ref sig .tc := ⟨.hbm, 243, rfl⟩
abbrev main_while0b_v175 : Ref sig .tc := ⟨.hbm, 244, rfl⟩
abbrev main_while0b_v176 : Ref sig .tc := ⟨.hbm, 245, rfl⟩
abbrev main_while0b_cst_46 : Ref sig .tc := ⟨.hbm, 246, rfl⟩
abbrev main_while0b_v177 : Ref sig .tc := ⟨.hbm, 247, rfl⟩
abbrev main_while0b_v178 : Ref sig .tc := ⟨.hbm, 248, rfl⟩
abbrev main_while0b_v179 : Ref sig .tc := ⟨.hbm, 249, rfl⟩
abbrev main_while0b_v180 : Ref sig .tc := ⟨.hbm, 250, rfl⟩
abbrev main_while0b_v181 : Ref sig .tc := ⟨.hbm, 251, rfl⟩
abbrev main_while0b_v182 : Ref sig .tc := ⟨.hbm, 252, rfl⟩
abbrev main_while0b_v183 : Ref sig .tc := ⟨.hbm, 253, rfl⟩
abbrev main_while0b_v184 : Ref sig .tc := ⟨.hbm, 254, rfl⟩
abbrev main_while0b_v185 : Ref sig .tc := ⟨.hbm, 255, rfl⟩
abbrev main_while0b_v186 : Ref sig .tc := ⟨.hbm, 256, rfl⟩
abbrev main_while0b_v187 : Ref sig .tc := ⟨.hbm, 257, rfl⟩
abbrev main_while0b_v188 : Ref sig .tc := ⟨.hbm, 258, rfl⟩
abbrev main_while0b_v189 : Ref sig .tc := ⟨.hbm, 259, rfl⟩
abbrev main_while0b_v190 : Ref sig .tc := ⟨.hbm, 260, rfl⟩
abbrev main_while0b_v191 : Ref sig .tc := ⟨.hbm, 261, rfl⟩
abbrev main_while0b_v192 : Ref sig .tc := ⟨.hbm, 262, rfl⟩
abbrev main_while0b_v193 : Ref sig .tc := ⟨.hbm, 263, rfl⟩
abbrev main_while0b_v194 : Ref sig .tc := ⟨.hbm, 264, rfl⟩
abbrev main_while0b_v195 : Ref sig .tc := ⟨.hbm, 265, rfl⟩
abbrev main_while0b_v196 : Ref sig .tc := ⟨.hbm, 266, rfl⟩
abbrev main_while0b_cst_47 : Ref sig .tc := ⟨.hbm, 267, rfl⟩
abbrev main_while0b_v197 : Ref sig .tc := ⟨.hbm, 268, rfl⟩
abbrev main_while0b_v198 : Ref sig .tc := ⟨.hbm, 269, rfl⟩
abbrev main_while0b_cst_48 : Ref sig .tc := ⟨.hbm, 270, rfl⟩
abbrev main_while0b_v199 : Ref sig .tc := ⟨.hbm, 271, rfl⟩
abbrev main_while0b_v200 : Ref sig .tc := ⟨.hbm, 272, rfl⟩
abbrev main_while0b_v201 : Ref sig .tc := ⟨.hbm, 273, rfl⟩
abbrev main_while0b_v202 : Ref sig .tc := ⟨.hbm, 274, rfl⟩
abbrev main_while0b_v203 : Ref sig .tc := ⟨.hbm, 275, rfl⟩
abbrev main_while0b_cst_49 : Ref sig .tc := ⟨.hbm, 276, rfl⟩
abbrev main_while0b_v204 : Ref sig .tc := ⟨.hbm, 277, rfl⟩
abbrev main_while0b_v205 : Ref sig .tc := ⟨.hbm, 278, rfl⟩
abbrev main_while0b_cst_50 : Ref sig .tc := ⟨.hbm, 279, rfl⟩
abbrev main_while0b_v206 : Ref sig .tc := ⟨.hbm, 280, rfl⟩
abbrev main_while0b_v207 : Ref sig .tc := ⟨.hbm, 281, rfl⟩
abbrev main_while0b_v208 : Ref sig .tc := ⟨.hbm, 282, rfl⟩
abbrev main_while0b_v209 : Ref sig .tc := ⟨.hbm, 283, rfl⟩
abbrev main_while0b_v210 : Ref sig .tc := ⟨.hbm, 284, rfl⟩
abbrev main_while0b_v211 : Ref sig .tc := ⟨.hbm, 285, rfl⟩
abbrev main_while0b_v212 : Ref sig .tc := ⟨.hbm, 286, rfl⟩
abbrev main_while0b_cst_51 : Ref sig .tc := ⟨.hbm, 287, rfl⟩
abbrev main_while0b_v213 : Ref sig .tc := ⟨.hbm, 288, rfl⟩
abbrev main_while0b_v214 : Ref sig .tc := ⟨.hbm, 289, rfl⟩
abbrev main_while0b_cst_52 : Ref sig .tc := ⟨.hbm, 290, rfl⟩
abbrev main_while0b_v215 : Ref sig .tc := ⟨.hbm, 291, rfl⟩
abbrev main_while0b_v216 : Ref sig .tc := ⟨.hbm, 292, rfl⟩
abbrev main_while0b_v217 : Ref sig .tc := ⟨.hbm, 293, rfl⟩
abbrev main_while0b_v218 : Ref sig .tc := ⟨.hbm, 294, rfl⟩
abbrev main_while0b_v219 : Ref sig .tc := ⟨.hbm, 295, rfl⟩
abbrev main_while0b_v220 : Ref sig .tc := ⟨.hbm, 296, rfl⟩
abbrev main_while0b_v221 : Ref sig .tc := ⟨.hbm, 297, rfl⟩
abbrev main_while0b_v222 : Ref sig .tc := ⟨.hbm, 298, rfl⟩
abbrev main_while0b_v223 : Ref sig .tc := ⟨.hbm, 299, rfl⟩
abbrev main_while0b_v224 : Ref sig .tc := ⟨.hbm, 300, rfl⟩
abbrev main_while0b_v225 : Ref sig .tc := ⟨.hbm, 301, rfl⟩
abbrev main_while0b_v226 : Ref sig .tc := ⟨.hbm, 302, rfl⟩
abbrev main_while0b_v227 : Ref sig .tc := ⟨.hbm, 303, rfl⟩
abbrev main_while0b_v228 : Ref sig .tc := ⟨.hbm, 304, rfl⟩
abbrev main_while0b_v229 : Ref sig .tc := ⟨.hbm, 305, rfl⟩
abbrev main_while0b_v230 : Ref sig .tc := ⟨.hbm, 306, rfl⟩
abbrev main_while0b_v231 : Ref sig .tc := ⟨.hbm, 307, rfl⟩
abbrev main_while0b_v232 : Ref sig .tc := ⟨.hbm, 308, rfl⟩
abbrev main_while0b_v233 : Ref sig .tc := ⟨.hbm, 309, rfl⟩
abbrev main_while0b_v234 : Ref sig .tc := ⟨.hbm, 310, rfl⟩
abbrev main_while0b_cst_53 : Ref sig .tc := ⟨.hbm, 311, rfl⟩
abbrev main_while0b_v235 : Ref sig .tc := ⟨.hbm, 312, rfl⟩
abbrev main_while0b_v236 : Ref sig .tc := ⟨.hbm, 313, rfl⟩
abbrev main_while0b_cst_54 : Ref sig .tc := ⟨.hbm, 314, rfl⟩
abbrev main_while0b_v237 : Ref sig .tc := ⟨.hbm, 315, rfl⟩
abbrev main_while0b_v238 : Ref sig .tc := ⟨.hbm, 316, rfl⟩
abbrev main_while0b_v239 : Ref sig .tc := ⟨.hbm, 317, rfl⟩
abbrev main_while0b_v240 : Ref sig .tc := ⟨.hbm, 318, rfl⟩
abbrev main_while0b_v241 : Ref sig .tc := ⟨.hbm, 319, rfl⟩
abbrev main_while0b_cst_55 : Ref sig .tc := ⟨.hbm, 320, rfl⟩
abbrev main_while0b_v242 : Ref sig .tc := ⟨.hbm, 321, rfl⟩
abbrev main_while0b_v243 : Ref sig .tc := ⟨.hbm, 322, rfl⟩
abbrev main_while0b_cst_56 : Ref sig .tc := ⟨.hbm, 323, rfl⟩
abbrev main_while0b_v244 : Ref sig .tc := ⟨.hbm, 324, rfl⟩
abbrev main_while0b_v245 : Ref sig .tc := ⟨.hbm, 325, rfl⟩
abbrev main_while0b_v246 : Ref sig .tc := ⟨.hbm, 326, rfl⟩
abbrev main_while0b_v247 : Ref sig .tc := ⟨.hbm, 327, rfl⟩
abbrev main_while0b_v248 : Ref sig .tc := ⟨.hbm, 328, rfl⟩
abbrev main_while0b_v249 : Ref sig .tc := ⟨.hbm, 329, rfl⟩
abbrev main_while0b_v250 : Ref sig .tc := ⟨.hbm, 330, rfl⟩
abbrev main_while0b_cst_57 : Ref sig .tc := ⟨.hbm, 331, rfl⟩
abbrev main_while0b_v251 : Ref sig .tc := ⟨.hbm, 332, rfl⟩
abbrev main_while0b_v252 : Ref sig .tc := ⟨.hbm, 333, rfl⟩
abbrev main_while0b_cst_58 : Ref sig .tc := ⟨.hbm, 334, rfl⟩
abbrev main_while0b_v253 : Ref sig .tc := ⟨.hbm, 335, rfl⟩
abbrev main_while0b_v254 : Ref sig .tc := ⟨.hbm, 336, rfl⟩
abbrev main_while0b_v255 : Ref sig .tc := ⟨.hbm, 337, rfl⟩
abbrev main_while0b_v256 : Ref sig .tc := ⟨.hbm, 338, rfl⟩
abbrev main_while0b_v257 : Ref sig .tc := ⟨.hbm, 339, rfl⟩
abbrev main_while0b_v258 : Ref sig .tc := ⟨.hbm, 340, rfl⟩
abbrev main_while0b_v259 : Ref sig .tc := ⟨.hbm, 341, rfl⟩
abbrev main_while0b_v260 : Ref sig .tc := ⟨.hbm, 342, rfl⟩
abbrev main_while0b_v261 : Ref sig .tc := ⟨.hbm, 343, rfl⟩
abbrev main_while0b_v262 : Ref sig .tc := ⟨.hbm, 344, rfl⟩
abbrev main_while0b_v263 : Ref sig .tc := ⟨.hbm, 345, rfl⟩
abbrev main_while0b_v264 : Ref sig .tc := ⟨.hbm, 346, rfl⟩
abbrev main_while0b_v265 : Ref sig .tc := ⟨.hbm, 347, rfl⟩
abbrev main_while0b_v266 : Ref sig .tc := ⟨.hbm, 348, rfl⟩
abbrev main_while0b_v267 : Ref sig .tc := ⟨.hbm, 349, rfl⟩
abbrev main_while0b_v268 : Ref sig .tc := ⟨.hbm, 350, rfl⟩
abbrev main_while0b_v269 : Ref sig .tc := ⟨.hbm, 351, rfl⟩
abbrev main_while0b_v270 : Ref sig .tc := ⟨.hbm, 352, rfl⟩
abbrev main_while0b_v271 : Ref sig .tc := ⟨.hbm, 353, rfl⟩
abbrev main_while0b_v272 : Ref sig .tc := ⟨.hbm, 354, rfl⟩
abbrev main_while0b_cst_59 : Ref sig .tc := ⟨.hbm, 355, rfl⟩
abbrev main_while0b_v273 : Ref sig .tc := ⟨.hbm, 356, rfl⟩
abbrev main_while0b_v274 : Ref sig .tc := ⟨.hbm, 357, rfl⟩
abbrev main_while0b_cst_60 : Ref sig .tc := ⟨.hbm, 358, rfl⟩
abbrev main_while0b_v275 : Ref sig .tc := ⟨.hbm, 359, rfl⟩
abbrev main_while0b_v276 : Ref sig .tc := ⟨.hbm, 360, rfl⟩
abbrev main_while0b_v277 : Ref sig .tc := ⟨.hbm, 361, rfl⟩
abbrev main_while0b_v278 : Ref sig .tc := ⟨.hbm, 362, rfl⟩
abbrev main_while0b_v279 : Ref sig .tc := ⟨.hbm, 363, rfl⟩
abbrev main_while0b_cst_61 : Ref sig .tc := ⟨.hbm, 364, rfl⟩
abbrev main_while0b_v280 : Ref sig .tc := ⟨.hbm, 365, rfl⟩
abbrev main_while0b_v281 : Ref sig .tc := ⟨.hbm, 366, rfl⟩
abbrev main_while0b_cst_62 : Ref sig .tc := ⟨.hbm, 367, rfl⟩
abbrev main_while0b_v282 : Ref sig .tc := ⟨.hbm, 368, rfl⟩
abbrev main_while0b_v283 : Ref sig .tc := ⟨.hbm, 369, rfl⟩
abbrev main_while0b_v284 : Ref sig .tc := ⟨.hbm, 370, rfl⟩
abbrev main_while0b_v285 : Ref sig .tc := ⟨.hbm, 371, rfl⟩
abbrev main_while0b_v286 : Ref sig .tc := ⟨.hbm, 372, rfl⟩
abbrev main_while0b_v287 : Ref sig .tc := ⟨.hbm, 373, rfl⟩
abbrev main_while0b_v288 : Ref sig .tc := ⟨.hbm, 374, rfl⟩
abbrev main_while0b_cst_63 : Ref sig .tc := ⟨.hbm, 375, rfl⟩
abbrev main_while0b_v289 : Ref sig .tc := ⟨.hbm, 376, rfl⟩
abbrev main_while0b_v290 : Ref sig .tc := ⟨.hbm, 377, rfl⟩
abbrev main_while0b_cst_64 : Ref sig .tc := ⟨.hbm, 378, rfl⟩
abbrev main_while0b_v291 : Ref sig .tc := ⟨.hbm, 379, rfl⟩
abbrev main_while0b_v292 : Ref sig .tc := ⟨.hbm, 380, rfl⟩
abbrev main_while0b_v293 : Ref sig .tc := ⟨.hbm, 381, rfl⟩
abbrev main_while0b_v294 : Ref sig .tc := ⟨.hbm, 382, rfl⟩
abbrev main_while0b_v295 : Ref sig .tc := ⟨.hbm, 383, rfl⟩
abbrev main_while0b_v296 : Ref sig .tc := ⟨.hbm, 384, rfl⟩
abbrev main_while0b_v297 : Ref sig .tc := ⟨.hbm, 385, rfl⟩
abbrev main_while0b_v298 : Ref sig .tc := ⟨.hbm, 386, rfl⟩
abbrev main_while0b_v299 : Ref sig .tc := ⟨.hbm, 387, rfl⟩
abbrev main_while0b_v300 : Ref sig .tc := ⟨.hbm, 388, rfl⟩
abbrev main_while0b_v301 : Ref sig .tc := ⟨.hbm, 389, rfl⟩
abbrev main_while0b_v302 : Ref sig .tc := ⟨.hbm, 390, rfl⟩
abbrev main_while0b_v303 : Ref sig .tc := ⟨.hbm, 391, rfl⟩
abbrev main_while0b_v304 : Ref sig .tc := ⟨.hbm, 392, rfl⟩
abbrev main_while0b_v305 : Ref sig .tc := ⟨.hbm, 393, rfl⟩
abbrev main_while0b_v306 : Ref sig .tc := ⟨.hbm, 394, rfl⟩
abbrev main_while0b_v307 : Ref sig .tc := ⟨.hbm, 395, rfl⟩
abbrev main_while0b_v308 : Ref sig .tc := ⟨.hbm, 396, rfl⟩
abbrev main_while0b_v309 : Ref sig .tc := ⟨.hbm, 397, rfl⟩
abbrev main_while0b_v310 : Ref sig .tc := ⟨.hbm, 398, rfl⟩
abbrev main_while0b_cst_65 : Ref sig .tc := ⟨.hbm, 399, rfl⟩
abbrev main_while0b_v311 : Ref sig .tc := ⟨.hbm, 400, rfl⟩
abbrev main_while0b_v312 : Ref sig .tc := ⟨.hbm, 401, rfl⟩
abbrev main_while0b_cst_66 : Ref sig .tc := ⟨.hbm, 402, rfl⟩
abbrev main_while0b_v313 : Ref sig .tc := ⟨.hbm, 403, rfl⟩
abbrev main_while0b_v314 : Ref sig .tc := ⟨.hbm, 404, rfl⟩
abbrev main_while0b_v315 : Ref sig .tc := ⟨.hbm, 405, rfl⟩
abbrev main_while0b_v316 : Ref sig .tc := ⟨.hbm, 406, rfl⟩
abbrev main_while0b_v317 : Ref sig .tc := ⟨.hbm, 407, rfl⟩
abbrev main_while0b_cst_67 : Ref sig .tc := ⟨.hbm, 408, rfl⟩
abbrev main_while0b_v318 : Ref sig .tc := ⟨.hbm, 409, rfl⟩
abbrev main_while0b_v319 : Ref sig .tc := ⟨.hbm, 410, rfl⟩
abbrev main_while0b_cst_68 : Ref sig .tc := ⟨.hbm, 411, rfl⟩
abbrev main_while0b_v320 : Ref sig .tc := ⟨.hbm, 412, rfl⟩
abbrev main_while0b_v321 : Ref sig .tc := ⟨.hbm, 413, rfl⟩
abbrev main_while0b_v322 : Ref sig .tc := ⟨.hbm, 414, rfl⟩
abbrev main_while0b_v323 : Ref sig .tc := ⟨.hbm, 415, rfl⟩
abbrev main_while0b_v324 : Ref sig .tc := ⟨.hbm, 416, rfl⟩
abbrev main_while0b_v325 : Ref sig .tc := ⟨.hbm, 417, rfl⟩
abbrev main_while0b_v326 : Ref sig .tc := ⟨.hbm, 418, rfl⟩
abbrev main_while0b_cst_69 : Ref sig .tc := ⟨.hbm, 419, rfl⟩
abbrev main_while0b_v327 : Ref sig .tc := ⟨.hbm, 420, rfl⟩
abbrev main_while0b_v328 : Ref sig .tc := ⟨.hbm, 421, rfl⟩
abbrev main_while0b_cst_70 : Ref sig .tc := ⟨.hbm, 422, rfl⟩
abbrev main_while0b_v329 : Ref sig .tc := ⟨.hbm, 423, rfl⟩
abbrev main_while0b_v330 : Ref sig .tc := ⟨.hbm, 424, rfl⟩
abbrev main_while0b_v331 : Ref sig .tc := ⟨.hbm, 425, rfl⟩
abbrev main_while0b_v332 : Ref sig .tc := ⟨.hbm, 426, rfl⟩
abbrev main_while0b_v333 : Ref sig .tc := ⟨.hbm, 427, rfl⟩
abbrev main_while0b_v334 : Ref sig .tc := ⟨.hbm, 428, rfl⟩
abbrev main_while0b_v335 : Ref sig .tc := ⟨.hbm, 429, rfl⟩
abbrev main_while0b_v336 : Ref sig .tc := ⟨.hbm, 430, rfl⟩
abbrev main_while0b_v337 : Ref sig .tc := ⟨.hbm, 431, rfl⟩
abbrev main_while0b_v338 : Ref sig .tc := ⟨.hbm, 432, rfl⟩
abbrev main_while0b_v339 : Ref sig .tc := ⟨.hbm, 433, rfl⟩
abbrev main_while0b_v340 : Ref sig .tc := ⟨.hbm, 434, rfl⟩
abbrev main_while0b_v341 : Ref sig .tc := ⟨.hbm, 435, rfl⟩
abbrev main_while0b_v342 : Ref sig .tc := ⟨.hbm, 436, rfl⟩
abbrev main_while0b_v343 : Ref sig .tc := ⟨.hbm, 437, rfl⟩
abbrev main_while0b_v344 : Ref sig .tc := ⟨.hbm, 438, rfl⟩
abbrev main_while0b_v345 : Ref sig .tc := ⟨.hbm, 439, rfl⟩
abbrev main_while0b_v346 : Ref sig .tc := ⟨.hbm, 440, rfl⟩
abbrev main_while0b_v347 : Ref sig .tc := ⟨.hbm, 441, rfl⟩
abbrev main_while0b_v348 : Ref sig .tc := ⟨.hbm, 442, rfl⟩
abbrev main_while0b_cst_71 : Ref sig .tc := ⟨.hbm, 443, rfl⟩
abbrev main_while0b_v349 : Ref sig .tc := ⟨.hbm, 444, rfl⟩
abbrev main_while0b_v350 : Ref sig .tc := ⟨.hbm, 445, rfl⟩
abbrev main_while0b_cst_72 : Ref sig .tc := ⟨.hbm, 446, rfl⟩
abbrev main_while0b_v351 : Ref sig .tc := ⟨.hbm, 447, rfl⟩
abbrev main_while0b_v352 : Ref sig .tc := ⟨.hbm, 448, rfl⟩
abbrev main_while0b_v353 : Ref sig .tc := ⟨.hbm, 449, rfl⟩
abbrev main_while0b_v354 : Ref sig .tc := ⟨.hbm, 450, rfl⟩
abbrev main_while0b_v355 : Ref sig .tc := ⟨.hbm, 451, rfl⟩
abbrev main_while0b_cst_73 : Ref sig .tc := ⟨.hbm, 452, rfl⟩
abbrev main_while0b_v356 : Ref sig .tc := ⟨.hbm, 453, rfl⟩
abbrev main_while0b_v357 : Ref sig .tc := ⟨.hbm, 454, rfl⟩
abbrev main_while0b_cst_74 : Ref sig .tc := ⟨.hbm, 455, rfl⟩
abbrev main_while0b_v358 : Ref sig .tc := ⟨.hbm, 456, rfl⟩
abbrev main_while0b_v359 : Ref sig .tc := ⟨.hbm, 457, rfl⟩
abbrev main_while0b_v360 : Ref sig .tc := ⟨.hbm, 458, rfl⟩
abbrev main_while0b_v361 : Ref sig .tc := ⟨.hbm, 459, rfl⟩
abbrev main_while0b_v362 : Ref sig .tc := ⟨.hbm, 460, rfl⟩
abbrev main_while0b_v363 : Ref sig .tc := ⟨.hbm, 461, rfl⟩
abbrev main_while0b_v364 : Ref sig .tc := ⟨.hbm, 462, rfl⟩
abbrev main_while0b_cst_75 : Ref sig .tc := ⟨.hbm, 463, rfl⟩
abbrev main_while0b_v365 : Ref sig .tc := ⟨.hbm, 464, rfl⟩
abbrev main_while0b_v366 : Ref sig .tc := ⟨.hbm, 465, rfl⟩
abbrev main_while0b_cst_76 : Ref sig .tc := ⟨.hbm, 466, rfl⟩
abbrev main_while0b_v367 : Ref sig .tc := ⟨.hbm, 467, rfl⟩
abbrev main_while0b_v368 : Ref sig .tc := ⟨.hbm, 468, rfl⟩
abbrev main_while0b_v369 : Ref sig .tc := ⟨.hbm, 469, rfl⟩
abbrev main_while0b_v370 : Ref sig .tc := ⟨.hbm, 470, rfl⟩
abbrev main_while0b_v371 : Ref sig .tc := ⟨.hbm, 471, rfl⟩
abbrev main_while0b_v372 : Ref sig .tc := ⟨.hbm, 472, rfl⟩
abbrev main_while0b_v373 : Ref sig .tc := ⟨.hbm, 473, rfl⟩
abbrev main_while0b_v374 : Ref sig .tc := ⟨.hbm, 474, rfl⟩
abbrev main_while0b_v375 : Ref sig .tc := ⟨.hbm, 475, rfl⟩
abbrev main_while0b_v376 : Ref sig .tc := ⟨.hbm, 476, rfl⟩
abbrev main_while0b_v377 : Ref sig .tc := ⟨.hbm, 477, rfl⟩
abbrev main_while0b_v378 : Ref sig .tc := ⟨.hbm, 478, rfl⟩
abbrev main_while0b_v379 : Ref sig .tc := ⟨.hbm, 479, rfl⟩
abbrev main_while0b_v380 : Ref sig .tc := ⟨.hbm, 480, rfl⟩
abbrev main_while0b_v381 : Ref sig .tc := ⟨.hbm, 481, rfl⟩
abbrev main_while0b_v382 : Ref sig .tc := ⟨.hbm, 482, rfl⟩
abbrev main_while0b_v383 : Ref sig .tc := ⟨.hbm, 483, rfl⟩
abbrev main_while0b_v384 : Ref sig .tc := ⟨.hbm, 484, rfl⟩
abbrev main_while0b_v385 : Ref sig .tc := ⟨.hbm, 485, rfl⟩
abbrev main_while0b_v386 : Ref sig .tc := ⟨.hbm, 486, rfl⟩
abbrev main_while0b_cst_77 : Ref sig .tc := ⟨.hbm, 487, rfl⟩
abbrev main_while0b_v387 : Ref sig .tc := ⟨.hbm, 488, rfl⟩
abbrev main_while0b_v388 : Ref sig .tc := ⟨.hbm, 489, rfl⟩
abbrev main_while0b_cst_78 : Ref sig .tc := ⟨.hbm, 490, rfl⟩
abbrev main_while0b_v389 : Ref sig .tc := ⟨.hbm, 491, rfl⟩
abbrev main_while0b_v390 : Ref sig .tc := ⟨.hbm, 492, rfl⟩
abbrev main_while0b_v391 : Ref sig .tc := ⟨.hbm, 493, rfl⟩
abbrev main_while0b_v392 : Ref sig .tc := ⟨.hbm, 494, rfl⟩
abbrev main_while0b_v393 : Ref sig .tc := ⟨.hbm, 495, rfl⟩
abbrev main_while0b_cst_79 : Ref sig .tc := ⟨.hbm, 496, rfl⟩
abbrev main_while0b_v394 : Ref sig .tc := ⟨.hbm, 497, rfl⟩
abbrev main_while0b_v395 : Ref sig .tc := ⟨.hbm, 498, rfl⟩
abbrev main_while0b_cst_80 : Ref sig .tc := ⟨.hbm, 499, rfl⟩
abbrev main_while0b_v396 : Ref sig .tc := ⟨.hbm, 500, rfl⟩
abbrev main_while0b_v397 : Ref sig .tc := ⟨.hbm, 501, rfl⟩
abbrev main_while0b_v398 : Ref sig .tc := ⟨.hbm, 502, rfl⟩
abbrev main_while0b_v399 : Ref sig .tc := ⟨.hbm, 503, rfl⟩
abbrev main_while0b_v400 : Ref sig .tc := ⟨.hbm, 504, rfl⟩
abbrev main_while0b_v401 : Ref sig .tc := ⟨.hbm, 505, rfl⟩
abbrev main_while0b_v402 : Ref sig .tc := ⟨.hbm, 506, rfl⟩
abbrev main_while0b_cst_81 : Ref sig .tc := ⟨.hbm, 507, rfl⟩
abbrev main_while0b_v403 : Ref sig .tc := ⟨.hbm, 508, rfl⟩
abbrev main_while0b_v404 : Ref sig .tc := ⟨.hbm, 509, rfl⟩
abbrev main_while0b_cst_82 : Ref sig .tc := ⟨.hbm, 510, rfl⟩
abbrev main_while0b_v405 : Ref sig .tc := ⟨.hbm, 511, rfl⟩
abbrev main_while0b_v406 : Ref sig .tc := ⟨.hbm, 512, rfl⟩
abbrev main_while0b_v407 : Ref sig .tc := ⟨.hbm, 513, rfl⟩
abbrev main_while0b_v408 : Ref sig .tc := ⟨.hbm, 514, rfl⟩
abbrev main_while0b_v409 : Ref sig .tc := ⟨.hbm, 515, rfl⟩
abbrev main_while0b_v410 : Ref sig .tc := ⟨.hbm, 516, rfl⟩
abbrev main_while0b_v411 : Ref sig .tc := ⟨.hbm, 517, rfl⟩
abbrev main_while0b_v412 : Ref sig .tc := ⟨.hbm, 518, rfl⟩
abbrev main_while0b_v413 : Ref sig .tc := ⟨.hbm, 519, rfl⟩
abbrev main_while0b_v414 : Ref sig .tc := ⟨.hbm, 520, rfl⟩
abbrev main_while0b_v415 : Ref sig .tc := ⟨.hbm, 521, rfl⟩
abbrev main_while0b_v416 : Ref sig .tc := ⟨.hbm, 522, rfl⟩
abbrev main_while0b_v417 : Ref sig .tc := ⟨.hbm, 523, rfl⟩
abbrev main_while0b_v418 : Ref sig .tc := ⟨.hbm, 524, rfl⟩
abbrev main_while0b_v419 : Ref sig .tc := ⟨.hbm, 525, rfl⟩
abbrev main_while0b_v420 : Ref sig .tc := ⟨.hbm, 526, rfl⟩
abbrev main_while0b_v421 : Ref sig .tc := ⟨.hbm, 527, rfl⟩
abbrev main_while0b_v422 : Ref sig .tc := ⟨.hbm, 528, rfl⟩
abbrev main_while0b_v423 : Ref sig .tc := ⟨.hbm, 529, rfl⟩
abbrev main_while0b_v424 : Ref sig .tc := ⟨.hbm, 530, rfl⟩
abbrev main_while0b_cst_83 : Ref sig .tc := ⟨.hbm, 531, rfl⟩
abbrev main_while0b_v425 : Ref sig .tc := ⟨.hbm, 532, rfl⟩
abbrev main_while0b_v426 : Ref sig .tc := ⟨.hbm, 533, rfl⟩
abbrev main_while0b_cst_84 : Ref sig .tc := ⟨.hbm, 534, rfl⟩
abbrev main_while0b_v427 : Ref sig .tc := ⟨.hbm, 535, rfl⟩
abbrev main_while0b_v428 : Ref sig .tc := ⟨.hbm, 536, rfl⟩
abbrev main_while0b_v429 : Ref sig .tc := ⟨.hbm, 537, rfl⟩
abbrev main_while0b_v430 : Ref sig .tc := ⟨.hbm, 538, rfl⟩
abbrev main_while0b_v431 : Ref sig .tc := ⟨.hbm, 539, rfl⟩
abbrev main_while0b_cst_85 : Ref sig .tc := ⟨.hbm, 540, rfl⟩
abbrev main_while0b_v432 : Ref sig .tc := ⟨.hbm, 541, rfl⟩
abbrev main_while0b_v433 : Ref sig .tc := ⟨.hbm, 542, rfl⟩
abbrev main_while0b_cst_86 : Ref sig .tc := ⟨.hbm, 543, rfl⟩
abbrev main_while0b_v434 : Ref sig .tc := ⟨.hbm, 544, rfl⟩
abbrev main_while0b_v435 : Ref sig .tc := ⟨.hbm, 545, rfl⟩
abbrev main_while0b_v436 : Ref sig .tc := ⟨.hbm, 546, rfl⟩
abbrev main_while0b_v437 : Ref sig .tc := ⟨.hbm, 547, rfl⟩
abbrev main_while0b_v438 : Ref sig .tc := ⟨.hbm, 548, rfl⟩
abbrev main_while0b_v439 : Ref sig .tc := ⟨.hbm, 549, rfl⟩
abbrev main_while0b_v440 : Ref sig .tc := ⟨.hbm, 550, rfl⟩
abbrev main_while0b_cst_87 : Ref sig .tc := ⟨.hbm, 551, rfl⟩
abbrev main_while0b_v441 : Ref sig .tc := ⟨.hbm, 552, rfl⟩
abbrev main_while0b_v442 : Ref sig .tc := ⟨.hbm, 553, rfl⟩
abbrev main_while0b_cst_88 : Ref sig .tc := ⟨.hbm, 554, rfl⟩
abbrev main_while0b_v443 : Ref sig .tc := ⟨.hbm, 555, rfl⟩
abbrev main_while0b_v444 : Ref sig .tc := ⟨.hbm, 556, rfl⟩
abbrev main_while0b_v445 : Ref sig .tc := ⟨.hbm, 557, rfl⟩
abbrev main_while0b_v446 : Ref sig .tc := ⟨.hbm, 558, rfl⟩
abbrev main_while0b_v447 : Ref sig .tc := ⟨.hbm, 559, rfl⟩
abbrev main_while0b_v448 : Ref sig .tc := ⟨.hbm, 560, rfl⟩
abbrev main_while0b_v449 : Ref sig .tc := ⟨.hbm, 561, rfl⟩
abbrev main_while0b_v450 : Ref sig .tc := ⟨.hbm, 562, rfl⟩
abbrev main_while0b_v451 : Ref sig .tc := ⟨.hbm, 563, rfl⟩
abbrev main_while0b_v452 : Ref sig .tc := ⟨.hbm, 564, rfl⟩
abbrev main_while0b_v453 : Ref sig .tc := ⟨.hbm, 565, rfl⟩
abbrev main_while0b_v454 : Ref sig .tc := ⟨.hbm, 566, rfl⟩
abbrev main_while0b_v455 : Ref sig .tc := ⟨.hbm, 567, rfl⟩
abbrev main_while0b_v456 : Ref sig .tc := ⟨.hbm, 568, rfl⟩
abbrev main_while0b_v457 : Ref sig .tc := ⟨.hbm, 569, rfl⟩
abbrev main_while0b_v458 : Ref sig .tc := ⟨.hbm, 570, rfl⟩
abbrev main_while0b_v459 : Ref sig .tc := ⟨.hbm, 571, rfl⟩
abbrev main_while0b_v460 : Ref sig .tc := ⟨.hbm, 572, rfl⟩
abbrev main_while0b_v461 : Ref sig .tc := ⟨.hbm, 573, rfl⟩
abbrev main_while0b_v462 : Ref sig .tc := ⟨.hbm, 574, rfl⟩
abbrev main_while0b_cst_89 : Ref sig .tc := ⟨.hbm, 575, rfl⟩
abbrev main_while0b_v463 : Ref sig .tc := ⟨.hbm, 576, rfl⟩
abbrev main_while0b_v464 : Ref sig .tc := ⟨.hbm, 577, rfl⟩
abbrev main_while0b_cst_90 : Ref sig .tc := ⟨.hbm, 578, rfl⟩
abbrev main_while0b_v465 : Ref sig .tc := ⟨.hbm, 579, rfl⟩
abbrev main_while0b_v466 : Ref sig .tc := ⟨.hbm, 580, rfl⟩
abbrev main_while0b_v467 : Ref sig .tc := ⟨.hbm, 581, rfl⟩
abbrev main_while0b_v468 : Ref sig .tc := ⟨.hbm, 582, rfl⟩
abbrev main_while0b_v469 : Ref sig .tc := ⟨.hbm, 583, rfl⟩
abbrev main_while0b_cst_91 : Ref sig .tc := ⟨.hbm, 584, rfl⟩
abbrev main_while0b_v470 : Ref sig .tc := ⟨.hbm, 585, rfl⟩
abbrev main_while0b_v471 : Ref sig .tc := ⟨.hbm, 586, rfl⟩
abbrev main_while0b_cst_92 : Ref sig .tc := ⟨.hbm, 587, rfl⟩
abbrev main_while0b_v472 : Ref sig .tc := ⟨.hbm, 588, rfl⟩
abbrev main_while0b_v473 : Ref sig .tc := ⟨.hbm, 589, rfl⟩
abbrev main_while0b_v474 : Ref sig .tc := ⟨.hbm, 590, rfl⟩
abbrev main_while0b_v475 : Ref sig .tc := ⟨.hbm, 591, rfl⟩
abbrev main_while0b_v476 : Ref sig .tc := ⟨.hbm, 592, rfl⟩
abbrev main_while0b_v477 : Ref sig .tc := ⟨.hbm, 593, rfl⟩
abbrev main_while0b_v478 : Ref sig .tc := ⟨.hbm, 594, rfl⟩
abbrev main_while0b_cst_93 : Ref sig .tc := ⟨.hbm, 595, rfl⟩
abbrev main_while0b_v479 : Ref sig .tc := ⟨.hbm, 596, rfl⟩
abbrev main_while0b_v480 : Ref sig .tc := ⟨.hbm, 597, rfl⟩
abbrev main_while0b_cst_94 : Ref sig .tc := ⟨.hbm, 598, rfl⟩
abbrev main_while0b_v481 : Ref sig .tc := ⟨.hbm, 599, rfl⟩
abbrev main_while0b_v482 : Ref sig .tc := ⟨.hbm, 600, rfl⟩
abbrev main_while0b_v483 : Ref sig .tc := ⟨.hbm, 601, rfl⟩
abbrev main_while0b_v484 : Ref sig .tc := ⟨.hbm, 602, rfl⟩
abbrev main_while0b_v485 : Ref sig .tc := ⟨.hbm, 603, rfl⟩
abbrev main_while0b_v486 : Ref sig .tc := ⟨.hbm, 604, rfl⟩
abbrev main_while0b_v487 : Ref sig .tc := ⟨.hbm, 605, rfl⟩
abbrev main_while0b_v488 : Ref sig .tc := ⟨.hbm, 606, rfl⟩
abbrev main_while0b_v489 : Ref sig .tc := ⟨.hbm, 607, rfl⟩
abbrev main_while0b_v490 : Ref sig .tc := ⟨.hbm, 608, rfl⟩
abbrev main_while0b_v491 : Ref sig .tc := ⟨.hbm, 609, rfl⟩
abbrev main_while0b_v492 : Ref sig .tc := ⟨.hbm, 610, rfl⟩
abbrev main_while0b_v493 : Ref sig .tc := ⟨.hbm, 611, rfl⟩
abbrev main_while0b_v494 : Ref sig .tc := ⟨.hbm, 612, rfl⟩
abbrev main_while0b_v495 : Ref sig .tc := ⟨.hbm, 613, rfl⟩
abbrev main_while0b_v496 : Ref sig .tc := ⟨.hbm, 614, rfl⟩
abbrev main_while0b_v497 : Ref sig .tc := ⟨.hbm, 615, rfl⟩
abbrev main_while0b_v498 : Ref sig .tc := ⟨.hbm, 616, rfl⟩
abbrev main_while0b_v499 : Ref sig .tc := ⟨.hbm, 617, rfl⟩
abbrev main_while0b_v500 : Ref sig .tc := ⟨.hbm, 618, rfl⟩
abbrev main_while0b_cst_95 : Ref sig .tc := ⟨.hbm, 619, rfl⟩
abbrev main_while0b_v501 : Ref sig .tc := ⟨.hbm, 620, rfl⟩
abbrev main_while0b_v502 : Ref sig .tc := ⟨.hbm, 621, rfl⟩
abbrev main_while0b_cst_96 : Ref sig .tc := ⟨.hbm, 622, rfl⟩
abbrev main_while0b_v503 : Ref sig .tc := ⟨.hbm, 623, rfl⟩
abbrev main_while0b_v504 : Ref sig .tc := ⟨.hbm, 624, rfl⟩
abbrev main_while0b_v505 : Ref sig .tc := ⟨.hbm, 625, rfl⟩
abbrev main_while0b_v506 : Ref sig .tc := ⟨.hbm, 626, rfl⟩
abbrev main_while0b_v507 : Ref sig .tc := ⟨.hbm, 627, rfl⟩
abbrev main_while0b_cst_97 : Ref sig .tc := ⟨.hbm, 628, rfl⟩
abbrev main_while0b_v508 : Ref sig .tc := ⟨.hbm, 629, rfl⟩
abbrev main_while0b_v509 : Ref sig .tc := ⟨.hbm, 630, rfl⟩
abbrev main_while0b_cst_98 : Ref sig .tc := ⟨.hbm, 631, rfl⟩
abbrev main_while0b_v510 : Ref sig .tc := ⟨.hbm, 632, rfl⟩
abbrev main_while0b_v511 : Ref sig .tc := ⟨.hbm, 633, rfl⟩
abbrev main_while0b_v512 : Ref sig .tc := ⟨.hbm, 634, rfl⟩
abbrev main_while0b_v513 : Ref sig .tc := ⟨.hbm, 635, rfl⟩
abbrev main_while0b_v514 : Ref sig .tc := ⟨.hbm, 636, rfl⟩
abbrev main_while0b_v515 : Ref sig .tc := ⟨.hbm, 637, rfl⟩
abbrev main_while0b_v516 : Ref sig .tc := ⟨.hbm, 638, rfl⟩
abbrev main_while0b_cst_99 : Ref sig .tc := ⟨.hbm, 639, rfl⟩
abbrev main_while0b_v517 : Ref sig .tc := ⟨.hbm, 640, rfl⟩
abbrev main_while0b_v518 : Ref sig .tc := ⟨.hbm, 641, rfl⟩
abbrev main_while0b_cst_100 : Ref sig .tc := ⟨.hbm, 642, rfl⟩
abbrev main_while0b_v519 : Ref sig .tc := ⟨.hbm, 643, rfl⟩
abbrev main_while0b_v520 : Ref sig .tc := ⟨.hbm, 644, rfl⟩
abbrev main_while0b_v521 : Ref sig .tc := ⟨.hbm, 645, rfl⟩
abbrev main_while0b_v522 : Ref sig .tc := ⟨.hbm, 646, rfl⟩
abbrev main_while0b_v523 : Ref sig .tc := ⟨.hbm, 647, rfl⟩
abbrev main_while0b_v524 : Ref sig .tc := ⟨.hbm, 648, rfl⟩
abbrev main_while0b_v525 : Ref sig .tc := ⟨.hbm, 649, rfl⟩
abbrev main_while0b_v526 : Ref sig .tc := ⟨.hbm, 650, rfl⟩
abbrev main_while0b_v527 : Ref sig .tc := ⟨.hbm, 651, rfl⟩
abbrev main_while0b_v528 : Ref sig .tc := ⟨.hbm, 652, rfl⟩
abbrev main_while0b_v529 : Ref sig .tc := ⟨.hbm, 653, rfl⟩
abbrev main_while0b_v530 : Ref sig .tc := ⟨.hbm, 654, rfl⟩
abbrev main_while0b_v531 : Ref sig .tc := ⟨.hbm, 655, rfl⟩
abbrev main_while0b_v532 : Ref sig .tc := ⟨.hbm, 656, rfl⟩
abbrev main_while0b_v533 : Ref sig .tc := ⟨.hbm, 657, rfl⟩
abbrev main_while0b_v534 : Ref sig .tc := ⟨.hbm, 658, rfl⟩
abbrev main_while0b_v535 : Ref sig .tc := ⟨.hbm, 659, rfl⟩
abbrev main_while0b_v536 : Ref sig .tc := ⟨.hbm, 660, rfl⟩
abbrev main_while0b_v537 : Ref sig .tc := ⟨.hbm, 661, rfl⟩
abbrev main_while0b_v538 : Ref sig .tc := ⟨.hbm, 662, rfl⟩
abbrev main_while0b_cst_101 : Ref sig .tc := ⟨.hbm, 663, rfl⟩
abbrev main_while0b_v539 : Ref sig .tc := ⟨.hbm, 664, rfl⟩
abbrev main_while0b_v540 : Ref sig .tc := ⟨.hbm, 665, rfl⟩
abbrev main_while0b_cst_102 : Ref sig .tc := ⟨.hbm, 666, rfl⟩
abbrev main_while0b_v541 : Ref sig .tc := ⟨.hbm, 667, rfl⟩
abbrev main_while0b_v542 : Ref sig .tc := ⟨.hbm, 668, rfl⟩
abbrev main_while0b_v543 : Ref sig .tc := ⟨.hbm, 669, rfl⟩
abbrev main_while0b_v544 : Ref sig .tc := ⟨.hbm, 670, rfl⟩
abbrev main_while0b_v545 : Ref sig .tc := ⟨.hbm, 671, rfl⟩
abbrev main_while0b_cst_103 : Ref sig .tc := ⟨.hbm, 672, rfl⟩
abbrev main_while0b_v546 : Ref sig .tc := ⟨.hbm, 673, rfl⟩
abbrev main_while0b_v547 : Ref sig .tc := ⟨.hbm, 674, rfl⟩
abbrev main_while0b_cst_104 : Ref sig .tc := ⟨.hbm, 675, rfl⟩
abbrev main_while0b_v548 : Ref sig .tc := ⟨.hbm, 676, rfl⟩
abbrev main_while0b_v549 : Ref sig .tc := ⟨.hbm, 677, rfl⟩
abbrev main_while0b_v550 : Ref sig .tc := ⟨.hbm, 678, rfl⟩
abbrev main_while0b_v551 : Ref sig .tc := ⟨.hbm, 679, rfl⟩
abbrev main_while0b_v552 : Ref sig .tc := ⟨.hbm, 680, rfl⟩
abbrev main_while0b_v553 : Ref sig .tc := ⟨.hbm, 681, rfl⟩
abbrev main_while0b_v554 : Ref sig .tc := ⟨.hbm, 682, rfl⟩
abbrev main_while0b_cst_105 : Ref sig .tc := ⟨.hbm, 683, rfl⟩
abbrev main_while0b_v555 : Ref sig .tc := ⟨.hbm, 684, rfl⟩
abbrev main_while0b_v556 : Ref sig .tc := ⟨.hbm, 685, rfl⟩
abbrev main_while0b_cst_106 : Ref sig .tc := ⟨.hbm, 686, rfl⟩
abbrev main_while0b_v557 : Ref sig .tc := ⟨.hbm, 687, rfl⟩
abbrev main_while0b_v558 : Ref sig .tc := ⟨.hbm, 688, rfl⟩
abbrev main_while0b_v559 : Ref sig .tc := ⟨.hbm, 689, rfl⟩
abbrev main_while0b_v560 : Ref sig .tc := ⟨.hbm, 690, rfl⟩
abbrev main_while0b_v561 : Ref sig .tc := ⟨.hbm, 691, rfl⟩
abbrev main_while0b_v562 : Ref sig .tc := ⟨.hbm, 692, rfl⟩
abbrev main_while0b_v563 : Ref sig .tc := ⟨.hbm, 693, rfl⟩
abbrev main_while0b_v564 : Ref sig .tc := ⟨.hbm, 694, rfl⟩
abbrev main_while0b_v565 : Ref sig .tc := ⟨.hbm, 695, rfl⟩
abbrev main_while0b_v566 : Ref sig .tc := ⟨.hbm, 696, rfl⟩
abbrev main_while0b_v567 : Ref sig .tc := ⟨.hbm, 697, rfl⟩
abbrev main_while0b_v568 : Ref sig .tc := ⟨.hbm, 698, rfl⟩
abbrev main_while0b_v569 : Ref sig .tc := ⟨.hbm, 699, rfl⟩
abbrev main_while0b_v570 : Ref sig .tc := ⟨.hbm, 700, rfl⟩
abbrev main_while0b_v571 : Ref sig .tc := ⟨.hbm, 701, rfl⟩
abbrev main_while0b_v572 : Ref sig .tc := ⟨.hbm, 702, rfl⟩
abbrev main_while0b_v573 : Ref sig .tc := ⟨.hbm, 703, rfl⟩
abbrev main_while0b_v574 : Ref sig .tc := ⟨.hbm, 704, rfl⟩
abbrev main_while0b_v575 : Ref sig .tc := ⟨.hbm, 705, rfl⟩
abbrev main_while0b_v576 : Ref sig .tc := ⟨.hbm, 706, rfl⟩
abbrev main_while0b_cst_107 : Ref sig .tc := ⟨.hbm, 707, rfl⟩
abbrev main_while0b_v577 : Ref sig .tc := ⟨.hbm, 708, rfl⟩
abbrev main_while0b_v578 : Ref sig .tc := ⟨.hbm, 709, rfl⟩
abbrev main_while0b_cst_108 : Ref sig .tc := ⟨.hbm, 710, rfl⟩
abbrev main_while0b_v579 : Ref sig .tc := ⟨.hbm, 711, rfl⟩
abbrev main_while0b_v580 : Ref sig .tc := ⟨.hbm, 712, rfl⟩
abbrev main_while0b_v581 : Ref sig .tc := ⟨.hbm, 713, rfl⟩
abbrev main_while0b_v582 : Ref sig .tc := ⟨.hbm, 714, rfl⟩
abbrev main_while0b_v583 : Ref sig .tc := ⟨.hbm, 715, rfl⟩
abbrev main_while0b_cst_109 : Ref sig .tc := ⟨.hbm, 716, rfl⟩
abbrev main_while0b_v584 : Ref sig .tc := ⟨.hbm, 717, rfl⟩
abbrev main_while0b_v585 : Ref sig .tc := ⟨.hbm, 718, rfl⟩
abbrev main_while0b_cst_110 : Ref sig .tc := ⟨.hbm, 719, rfl⟩
abbrev main_while0b_v586 : Ref sig .tc := ⟨.hbm, 720, rfl⟩
abbrev main_while0b_v587 : Ref sig .tc := ⟨.hbm, 721, rfl⟩
abbrev main_while0b_v588 : Ref sig .tc := ⟨.hbm, 722, rfl⟩
abbrev main_while0b_v589 : Ref sig .tc := ⟨.hbm, 723, rfl⟩
abbrev main_while0b_v590 : Ref sig .tc := ⟨.hbm, 724, rfl⟩
abbrev main_while0b_v591 : Ref sig .tc := ⟨.hbm, 725, rfl⟩
abbrev main_while0b_v592 : Ref sig .tc := ⟨.hbm, 726, rfl⟩
abbrev main_while0b_cst_111 : Ref sig .tc := ⟨.hbm, 727, rfl⟩
abbrev main_while0b_v593 : Ref sig .tc := ⟨.hbm, 728, rfl⟩
abbrev main_while0b_v594 : Ref sig .tc := ⟨.hbm, 729, rfl⟩
abbrev main_while0b_cst_112 : Ref sig .tc := ⟨.hbm, 730, rfl⟩
abbrev main_while0b_v595 : Ref sig .tc := ⟨.hbm, 731, rfl⟩
abbrev main_while0b_v596 : Ref sig .tc := ⟨.hbm, 732, rfl⟩
abbrev main_while0b_v597 : Ref sig .tc := ⟨.hbm, 733, rfl⟩
abbrev main_while0b_v598 : Ref sig .tc := ⟨.hbm, 734, rfl⟩
abbrev main_while0b_v599 : Ref sig .tc := ⟨.hbm, 735, rfl⟩
abbrev main_while0b_v600 : Ref sig .tc := ⟨.hbm, 736, rfl⟩
abbrev main_while0b_v601 : Ref sig .tc := ⟨.hbm, 737, rfl⟩
abbrev main_while0b_v602 : Ref sig .tc := ⟨.hbm, 738, rfl⟩
abbrev main_while0b_v603 : Ref sig .tc := ⟨.hbm, 739, rfl⟩
abbrev main_while0b_v604 : Ref sig .tc := ⟨.hbm, 740, rfl⟩
abbrev main_while0b_v605 : Ref sig .tc := ⟨.hbm, 741, rfl⟩
abbrev main_while0b_v606 : Ref sig .tc := ⟨.hbm, 742, rfl⟩
abbrev main_while0b_v607 : Ref sig .tc := ⟨.hbm, 743, rfl⟩
abbrev main_while0b_v608 : Ref sig .tc := ⟨.hbm, 744, rfl⟩
abbrev main_while0b_v609 : Ref sig .tc := ⟨.hbm, 745, rfl⟩
abbrev main_while0b_v610 : Ref sig .tc := ⟨.hbm, 746, rfl⟩
abbrev main_while0b_v611 : Ref sig .tc := ⟨.hbm, 747, rfl⟩
abbrev main_while0b_v612 : Ref sig .tc := ⟨.hbm, 748, rfl⟩
abbrev main_while0b_v613 : Ref sig .tc := ⟨.hbm, 749, rfl⟩
abbrev main_while0b_v614 : Ref sig .tc := ⟨.hbm, 750, rfl⟩
abbrev main_while0b_cst_113 : Ref sig .tc := ⟨.hbm, 751, rfl⟩
abbrev main_while0b_v615 : Ref sig .tc := ⟨.hbm, 752, rfl⟩
abbrev main_while0b_v616 : Ref sig .tc := ⟨.hbm, 753, rfl⟩
abbrev main_while0b_cst_114 : Ref sig .tc := ⟨.hbm, 754, rfl⟩
abbrev main_while0b_v617 : Ref sig .tc := ⟨.hbm, 755, rfl⟩
abbrev main_while0b_v618 : Ref sig .tc := ⟨.hbm, 756, rfl⟩
abbrev main_while0b_v619 : Ref sig .tc := ⟨.hbm, 757, rfl⟩
abbrev main_while0b_v620 : Ref sig .tc := ⟨.hbm, 758, rfl⟩
abbrev main_while0b_v621 : Ref sig .tc := ⟨.hbm, 759, rfl⟩
abbrev main_while0b_cst_115 : Ref sig .tc := ⟨.hbm, 760, rfl⟩
abbrev main_while0b_v622 : Ref sig .tc := ⟨.hbm, 761, rfl⟩
abbrev main_while0b_v623 : Ref sig .tc := ⟨.hbm, 762, rfl⟩
abbrev main_while0b_cst_116 : Ref sig .tc := ⟨.hbm, 763, rfl⟩
abbrev main_while0b_v624 : Ref sig .tc := ⟨.hbm, 764, rfl⟩
abbrev main_while0b_v625 : Ref sig .tc := ⟨.hbm, 765, rfl⟩
abbrev main_while0b_v626 : Ref sig .tc := ⟨.hbm, 766, rfl⟩
abbrev main_while0b_v627 : Ref sig .tc := ⟨.hbm, 767, rfl⟩
abbrev main_while0b_v628 : Ref sig .tc := ⟨.hbm, 768, rfl⟩
abbrev main_while0b_v629 : Ref sig .tc := ⟨.hbm, 769, rfl⟩
abbrev main_while0b_v630 : Ref sig .tc := ⟨.hbm, 770, rfl⟩
abbrev main_while0b_cst_117 : Ref sig .tc := ⟨.hbm, 771, rfl⟩
abbrev main_while0b_v631 : Ref sig .tc := ⟨.hbm, 772, rfl⟩
abbrev main_while0b_v632 : Ref sig .tc := ⟨.hbm, 773, rfl⟩
abbrev main_while0b_cst_118 : Ref sig .tc := ⟨.hbm, 774, rfl⟩
abbrev main_while0b_v633 : Ref sig .tc := ⟨.hbm, 775, rfl⟩
abbrev main_while0b_v634 : Ref sig .tc := ⟨.hbm, 776, rfl⟩
abbrev main_while0b_v635 : Ref sig .tc := ⟨.hbm, 777, rfl⟩
abbrev main_while0b_v636 : Ref sig .tc := ⟨.hbm, 778, rfl⟩
abbrev main_while0b_v637 : Ref sig .tc := ⟨.hbm, 779, rfl⟩
abbrev main_while0b_v638 : Ref sig .tc := ⟨.hbm, 780, rfl⟩
abbrev main_while0b_v639 : Ref sig .tc := ⟨.hbm, 781, rfl⟩
abbrev main_while0b_v640 : Ref sig .tc := ⟨.hbm, 782, rfl⟩
abbrev main_while0b_v641 : Ref sig .tc := ⟨.hbm, 783, rfl⟩
abbrev main_while0b_v642 : Ref sig .tc := ⟨.hbm, 784, rfl⟩
abbrev main_while0b_v643 : Ref sig .tc := ⟨.hbm, 785, rfl⟩
abbrev main_while0b_v644 : Ref sig .tc := ⟨.hbm, 786, rfl⟩
abbrev main_while0b_v645 : Ref sig .tc := ⟨.hbm, 787, rfl⟩
abbrev main_while0b_v646 : Ref sig .tc := ⟨.hbm, 788, rfl⟩
abbrev main_while0b_v647 : Ref sig .tc := ⟨.hbm, 789, rfl⟩
abbrev main_while0b_v648 : Ref sig .tc := ⟨.hbm, 790, rfl⟩
abbrev main_while0b_v649 : Ref sig .tc := ⟨.hbm, 791, rfl⟩
abbrev main_while0b_v650 : Ref sig .tc := ⟨.hbm, 792, rfl⟩
abbrev main_while0b_v651 : Ref sig .tc := ⟨.hbm, 793, rfl⟩
abbrev main_while0b_v652 : Ref sig .tc := ⟨.hbm, 794, rfl⟩
abbrev main_while0b_cst_119 : Ref sig .tc := ⟨.hbm, 795, rfl⟩
abbrev main_while0b_v653 : Ref sig .tc := ⟨.hbm, 796, rfl⟩
abbrev main_while0b_v654 : Ref sig .tc := ⟨.hbm, 797, rfl⟩
abbrev main_while0b_cst_120 : Ref sig .tc := ⟨.hbm, 798, rfl⟩
abbrev main_while0b_v655 : Ref sig .tc := ⟨.hbm, 799, rfl⟩
abbrev main_while0b_v656 : Ref sig .tc := ⟨.hbm, 800, rfl⟩
abbrev main_while0b_v657 : Ref sig .tc := ⟨.hbm, 801, rfl⟩
abbrev main_while0b_v658 : Ref sig .tc := ⟨.hbm, 802, rfl⟩
abbrev main_while0b_v659 : Ref sig .tc := ⟨.hbm, 803, rfl⟩
abbrev main_while0b_cst_121 : Ref sig .tc := ⟨.hbm, 804, rfl⟩
abbrev main_while0b_v660 : Ref sig .tc := ⟨.hbm, 805, rfl⟩
abbrev main_while0b_v661 : Ref sig .tc := ⟨.hbm, 806, rfl⟩
abbrev main_while0b_cst_122 : Ref sig .tc := ⟨.hbm, 807, rfl⟩
abbrev main_while0b_v662 : Ref sig .tc := ⟨.hbm, 808, rfl⟩
abbrev main_while0b_v663 : Ref sig .tc := ⟨.hbm, 809, rfl⟩
abbrev main_while0b_v664 : Ref sig .tc := ⟨.hbm, 810, rfl⟩
abbrev main_while0b_v665 : Ref sig .tc := ⟨.hbm, 811, rfl⟩
abbrev main_while0b_v666 : Ref sig .tc := ⟨.hbm, 812, rfl⟩
abbrev main_while0b_v667 : Ref sig .tc := ⟨.hbm, 813, rfl⟩
abbrev main_while0b_v668 : Ref sig .tc := ⟨.hbm, 814, rfl⟩
abbrev main_while0b_cst_123 : Ref sig .tc := ⟨.hbm, 815, rfl⟩
abbrev main_while0b_v669 : Ref sig .tc := ⟨.hbm, 816, rfl⟩
abbrev main_while0b_v670 : Ref sig .tc := ⟨.hbm, 817, rfl⟩
abbrev main_while0b_cst_124 : Ref sig .tc := ⟨.hbm, 818, rfl⟩
abbrev main_while0b_v671 : Ref sig .tc := ⟨.hbm, 819, rfl⟩
abbrev main_while0b_v672 : Ref sig .tc := ⟨.hbm, 820, rfl⟩
abbrev main_while0b_v673 : Ref sig .tc := ⟨.hbm, 821, rfl⟩
abbrev main_while0b_v674 : Ref sig .tc := ⟨.hbm, 822, rfl⟩
abbrev main_while0b_v675 : Ref sig .tc := ⟨.hbm, 823, rfl⟩
abbrev main_while0b_v676 : Ref sig .tc := ⟨.hbm, 824, rfl⟩
abbrev main_while0b_v677 : Ref sig .tc := ⟨.hbm, 825, rfl⟩
abbrev main_while0b_call35_v0 : Ref sig .tc := ⟨.hbm, 826, rfl⟩
abbrev main_while0b_call35_c : Ref sig .tc := ⟨.hbm, 827, rfl⟩
abbrev main_while0b_v678 : Ref sig .tc := ⟨.hbm, 828, rfl⟩
abbrev main_while0b_c_125 : Ref sig .tc := ⟨.hbm, 829, rfl⟩
abbrev main_while0b_v679 : Ref sig .tc := ⟨.hbm, 830, rfl⟩

abbrev nD : Nat := 1
abbrev τ : Topo := Topo.v7x

variable {F : FTy → Type} [FloatOps F]

abbrev main_while0_count : Scf.Loop 32 := ⟨0#32, 8192#32, 1#32⟩
-- ==== Proof.Model.lean ====
/- What the tagger's chain computes, written as recursions over plain vectors: the character LSTM of one word, the word
   LSTM over the words, and the row of logits each word leaves. Generic in the float type. -/
module

public import proofs.«01_k».proof.Proof.Gen.KernelIdeal.Skeleton
public import Idealize.ShloMosaic.Lib.ValueIdxCore

@[expose] public section

noncomputable section

namespace Cert.Proof.Chain

open Cert.KernelIdeal Cert.KernelIdeal.Gen
open Idealize.ShloMosaic Idealize.ShloMosaic.ValueIdx

variable {F : FTy → Type} [FloatOps F]

/-- The operands of the chain's call: the words' lengths, the characters of all words in a row, the gathered word
    embeddings, the character embedding, and the (transposed, split, padded) weights. -/
structure Ops (F : FTy → Type) where
  lens : IVec S8192 32
  chars : IVec S131072 32
  we : FVec F S8192x256 .f32
  cemb : FVec F S128x64 .f32
  wc : FVec F S64x512 .f32
  bc : FVec F S1x512 .f32
  uc : FVec F S128x512 .f32
  ww : FVec F S256x1024 .f32
  wh : FVec F S128x1024 .f32
  uw : FVec F S256x1024 .f32
  bw : FVec F S1x1024 .f32
  wo : FVec F S256x128 .f32
  bo : FVec F S1x128 .f32

/-- The character LSTM's carry: hidden and cell. -/
abbrev CSt (F : FTy → Type) := FVec F S1x128 .f32 × FVec F S1x128 .f32

/-- The whole carry: the character LSTM's hidden and cell, the word LSTM's hidden and cell. -/
abbrev St (F : FTy → Type) := FVec F S1x128 .f32 × FVec F S1x128 .f32 × FVec F S1x256 .f32 × FVec F S1x256 .f32

/-- Row `w` of the table of character gates (`w` taken below 128). -/
def tblRow (tbl : FVec F S128x512 .f32) (w : BitVec 32) : FVec F S1x512 .f32 :=
  fun j => tbl (ix2 ⟨w.toNat % 128, Nat.mod_lt _ (by decide)⟩ (j 1))

/-- Row `i` of the word embeddings (`i` taken below 8192). -/
def weRow (we : FVec F S8192x256 .f32) (i : ℕ) : FVec F S1x256 .f32 :=
  fun j => we (ix2 ⟨i % 8192, Nat.mod_lt _ (by decide)⟩ (j 1))

/-- The length of word `i`. -/
def lenAt (lens : IVec S8192 32) (i : ℕ) : BitVec 32 := lens (ix1 ⟨i % 8192, Nat.mod_lt _ (by decide)⟩)

/-- Character `t` of word `i`. -/
def charAt (chars : IVec S131072 32) (i t : ℕ) : BitVec 32 :=
  chars (ix1 ⟨(i * 16 + t) % 131072, Nat.mod_lt _ (by decide)⟩)

/-- One step of the character LSTM at character `w`. -/
def charStep (tbl uc : FVec F S128x512 .f32) (w : BitVec 32) (s : CSt F) : CSt F :=
  (k1_pay7 s.1 s.2 (tblRow tbl w) uc, k1_pay6 s.1 s.2 (tblRow tbl w) uc)

/-- The first `t` characters of word `i`, from the carry `s`. -/
def charIter (tbl uc : FVec F S128x512 .f32) (chars : IVec S131072 32) (i : ℕ) (s : CSt F) : ℕ → CSt F
  | 0 => s
  | t + 1 => charStep tbl uc (charAt chars i t) (charIter tbl uc chars i s t)

/-- Word `i`: its characters, then one step of the word LSTM on its embedding and the character hidden. -/
def wordStep (W : Ops F) (tbl : FVec F S128x512 .f32) (i : ℕ) (s : St F) : St F :=
  let hc := charIter tbl W.uc W.chars i (s.1, s.2.1) (lenAt W.lens i).toNat
  (hc.1, hc.2, k1_pay13 s.2.2.1 s.2.2.2 hc.1 (weRow W.we i) W.ww W.bw W.wh W.uw,
    k1_pay12 s.2.2.1 s.2.2.2 hc.1 (weRow W.we i) W.ww W.bw W.wh W.uw)

/-- The first `i` words, from zero. -/
def wordIter (W : Ops F) (tbl : FVec F S128x512 .f32) : ℕ → St F
  | 0 => (k1_pay2, k1_pay2, k1_pay3, k1_pay3)
  | i + 1 => wordStep W tbl i (wordIter W tbl i)

/-- The row of logits word `i` leaves: the word LSTM's hidden after it through the output layer. -/
def outRow (W : Ops F) (tbl : FVec F S128x512 .f32) (i : ℕ) : FVec F S1x1x128 .f32 :=
  k1_pay4 (wordIter W tbl (i + 1)).2.2.1 W.wo W.bo

/-- All the rows: what the call leaves in its result. -/
def outArr (W : Ops F) : FVec F S8192x1x128 .f32 :=
  fun j => outRow W (k1_pay1 W.cemb W.wc W.bc) (j 0).val (ix3 0 0 (j 2))

/-- The words' lengths are between 1 and 16 and the characters below 128. -/
structure InRange (W : Ops F) : Prop where
  len : ∀ j, 1 ≤ (W.lens j).toNat ∧ (W.lens j).toNat ≤ 16
  chr : ∀ j, (W.chars j).toNat < 128

end Cert.Proof.Chain
-- ==== Proof.Words.lean ====
/- Word arithmetic of the chain's two inner loops: the trip counts, the offsets of the words and rows they read, and the
   side conditions these have to meet, for a word length of at most 16. -/
module

public import proofs.«01_k».proof.Proof.Model
public import proofs.«01_k».proof.Proof.Gen.KernelIdeal
public import Idealize.ShloMosaic.Lib.LoopRemainder

@[expose] public section

noncomputable section

namespace Cert.Proof.Chain

open Cert.KernelIdeal Cert.KernelIdeal.Gen
open Idealize.ShloMosaic Idealize.ShloMosaic.ValueIdx

/-- A word of at most 16 is itself read signed. -/
theorem toInt_small (v : BitVec 32) (hv : v.toNat ≤ 16) : v.toInt = v.toNat := by
  have hc := BitVec.toInt_eq_toNat_cond v; split at hc <;> omega

/-- The upper bound the character loop computes is the length. -/
theorem bound_eq (v : BitVec 32) :
    Scalar.addi 0#32 (Scalar.muli (Scalar.divsi (Scalar.subi v 0#32) 1#32) 1#32) = v := by
  rw [Scalar.muli_divsi_one]; simp [Scalar.addi, Scalar.subi, IntOp.addi, IntOp.subi]

/-- The character loop makes as many trips as the word has characters. -/
theorem charTrips (v : BitVec 32) (hv : v.toNat ≤ 16) : (k1_t2_loop v).trips = v.toNat := by
  show Scf.trips 0#32 (Scalar.addi 0#32 (Scalar.muli (Scalar.divsi (Scalar.subi v 0#32) 1#32) 1#32)) 1#32 = _
  rw [bound_eq]; unfold Scf.trips; rw [toInt_small v hv]; simp

/-- The remainder loop makes none. -/
theorem remTrips (v : BitVec 32) : (k1_t3_loop v).trips = 0 :=
  Scf.rem_trips 0#32 (Scalar.subi v 0#32)

/-- The outer loop makes 8192 trips. -/
theorem outerTrips : k1_t1_loop.trips = 8192 := by decide +kernel

/-- Where trip `k` of word `i`'s character loop reads its character. -/
theorem charOff (i : Fin k1_t1_loop.trips) (v : BitVec 32) (hv : v.toNat ≤ 16) (k : Fin (k1_t2_loop v).trips) :
    k1_off2 i v k = ![i.val * 16 + k.val] := by
  have hi : i.val < 8192 := lt_of_lt_of_eq i.isLt outerTrips
  have hk : k.val < 16 := lt_of_lt_of_le (lt_of_lt_of_eq k.isLt (charTrips v hv)) hv
  have e : (Scalar.indexCast (Scalar.addi (Scalar.muli (Scf.iv 0#32 1#32 i.val) 16#32) (Scf.iv 0#32 1#32 k.val))).toNat
      = i.val * 16 + k.val := by
    simp only [Scalar.indexCast, Scalar.addi, Scalar.muli, IntOp.addi, IntOp.muli, Scf.iv, BitVec.toNat_add, BitVec.toNat_mul,
      BitVec.toNat_ofNat, BitVec.zero_add, BitVec.mul_one]
    omega
  show (![_] : Fin 1 → ℕ) = _
  rw [e]

/-- The word length's side condition holds of a length of at most 16. -/
theorem lenOk (i : Fin k1_t1_loop.trips) (v : BitVec 32) (hv : v.toNat ≤ 16) : k1_chk1 i v := by
  have hi : i.val < 8192 := lt_of_lt_of_eq i.isLt outerTrips
  refine ⟨?_, fun k a => ?_, ?_, fun k a => ?_⟩
  · show Scf.OK 0#32 (Scalar.addi 0#32 (Scalar.muli (Scalar.divsi (Scalar.subi v 0#32) 1#32) 1#32)) 1#32
    have := charTrips v hv
    change Scf.trips 0#32 (Scalar.addi 0#32 (Scalar.muli (Scalar.divsi (Scalar.subi v 0#32) 1#32) 1#32)) 1#32 = _ at this
    refine ⟨by decide, ?_⟩
    rw [this]; simp; omega
  · have hk : k.val < 16 := lt_of_lt_of_le (lt_of_lt_of_eq k.isLt (charTrips v hv)) hv
    rw [charOff i v hv k]
    match a with | ⟨0, _⟩ => show i.val * 16 + k.val + 1 ≤ 131072; omega
  · have := remTrips v
    change Scf.trips (Scalar.addi 0#32 (Scalar.muli (Scalar.divsi (Scalar.subi v 0#32) 1#32) 1#32)) (Scalar.addi 0#32 (Scalar.subi v 0#32)) 1#32 = _ at this
    show Scf.OK (Scalar.addi 0#32 (Scalar.muli (Scalar.divsi (Scalar.subi v 0#32) 1#32) 1#32)) (Scalar.addi 0#32 (Scalar.subi v 0#32)) 1#32
    refine ⟨by decide, ?_⟩
    rw [this, bound_eq, toInt_small v hv]; simp; omega
  · exact (Nat.not_lt_zero _ (lt_of_lt_of_eq k.isLt (remTrips v))).elim

/-- A character below 128 has its row in the table. -/
theorem rowOk (w : BitVec 32) (hw : w.toNat < 128) : k1_chk2 w := by
  intro a
  match a with
  | ⟨0, _⟩ => show w.toNat + 1 ≤ 128; omega
  | ⟨1, _⟩ => show 0 + 512 ≤ 512; omega

end Cert.Proof.Chain
-- ==== Proof.ChainLoops.lean ====
/- The chain's loops: what each holds before a trip, and one trip of each. -/
module

public import proofs.«01_k».proof.Proof.Words
public import proofs.«01_k».proof.Proof.Gen.KernelIdeal.Loops
public import Idealize.ShloMosaic.Lib.Tactic
public import Idealize.ShloMosaic.Lib.VecWindow

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources' algebra: the staging machinery's, no more. -/
abbrev UU := UR sig nD τ
local notation "𝕄" => MT nD τ sig Unit (Elt F) ℕ UU ℕ
abbrev 𝒱₀ : Variants := Variants.none

/-- A buffer of the core held through a view, at contents `f`. -/
abbrev heldAt (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-- Reading through a view at a unit rectangle. -/
theorem readAt_at {sp : Space} {s : Shape} {e : EltTy} (v : View sig .tc sp s e) (f : v.ty.Contents (Elt F)) (off size : Fin s.rank → ℕ)
    (inb : ∀ a, off a + size a ≤ s.size a) (j : (Rect.unit off size inb).toLoadRect.shape.Idx) (i : s.Idx) (h : ∀ a, (i a).val = off a + (j a).val) :
    v.readAt (Elt F) (Rect.unit off size inb).toLoadRect f j = v.read (Elt F) f i := by
  exact congrArg (v.read (Elt F) f) (funext fun a => Fin.ext (by
    show off a + 1 * (j a).val = (i a).val
    rw [h a, Nat.one_mul]))

/-- A row of the gate table read through a view. -/
theorem readAt_tblRow {sp : Space} (v : View sig .tc sp S128x512 .f32) (f : v.ty.Contents (Elt F)) (w : BitVec 32) (hw : w.toNat < 128)
    (inb : ∀ a, (k1_off3 w) a + S1x512.size a ≤ S128x512.size a) :
    v.readAt (Elt F) (Rect.unit (s := S128x512) (k1_off3 w) S1x512.size inb).toLoadRect f = tblRow (v.read (Elt F) f) w := by
  funext j
  refine readAt_at v f _ _ _ _ _ fun a => ?_
  match a with
  | ⟨0, _⟩ =>
    have h0 : (j 0).val < 1 := (j 0).isLt
    show w.toNat % 128 = w.toNat + (j 0).val
    rw [Nat.mod_eq_of_lt hw]; omega
  | ⟨1, _⟩ => show (j 1).val = 0 + (j 1).val; omega

/-- Row `i` of the word embeddings read through a view. -/
theorem readAt_weRow {sp : Space} (v : View sig .tc sp S8192x256 .f32) (f : v.ty.Contents (Elt F)) (i : Fin k1_t1_loop.trips)
    (inb : ∀ a, (k1_off6 i) a + S1x256.size a ≤ S8192x256.size a) :
    v.readAt (Elt F) (Rect.unit (s := S8192x256) (k1_off6 i) S1x256.size inb).toLoadRect f = weRow (v.read (Elt F) f) i.val := by
  have hi : i.val < 8192 := lt_of_lt_of_eq i.isLt outerTrips
  funext j
  refine readAt_at v f _ _ _ _ _ fun a => ?_
  rw [show k1_off6 i a = (![i.val, 0] : Fin 2 → ℕ) a from congrFun (k1_off6_eq i) a]
  match a with
  | ⟨0, _⟩ =>
    have h0 : (j 0).val < 1 := (j 0).isLt
    show i.val % 8192 = i.val + (j 0).val
    rw [Nat.mod_eq_of_lt hi]; omega
  | ⟨1, _⟩ => show (j 1).val = 0 + (j 1).val; omega

/-- Word `i`'s length read through a view. -/
theorem readAt_len {sp : Space} (v : View sig .tc sp S8192 .i32) (f : v.ty.Contents (Elt F)) (i : Fin k1_t1_loop.trips)
    (inb : ∀ a, (k1_off1 i) a + S1.size a ≤ S8192.size a) (j : (Rect.unit (s := S8192) (k1_off1 i) S1.size inb).toLoadRect.shape.Idx) :
    v.readAt (Elt F) (Rect.unit (s := S8192) (k1_off1 i) S1.size inb).toLoadRect f j = lenAt (v.read (Elt F) f) i.val := by
  have hi : i.val < 8192 := lt_of_lt_of_eq i.isLt outerTrips
  refine readAt_at v f _ _ _ _ _ fun a => ?_
  rw [show k1_off1 i a = (![i.val] : Fin 1 → ℕ) a from congrFun (k1_off1_eq i) a]
  match a with
  | ⟨0, _⟩ =>
    have h0 : (j 0).val < 1 := (j 0).isLt
    show i.val % 8192 = i.val + (j 0).val
    rw [Nat.mod_eq_of_lt hi]; omega

/-- Character `k` of word `i` read through a view. -/
theorem readAt_char {sp : Space} (v : View sig .tc sp S131072 .i32) (f : v.ty.Contents (Elt F)) (i : Fin k1_t1_loop.trips)
    (n : BitVec 32) (hn : n.toNat ≤ 16) (k : Fin (k1_t2_loop n).trips)
    (inb : ∀ a, (k1_off2 i n k) a + S1.size a ≤ S131072.size a) (j : (Rect.unit (s := S131072) (k1_off2 i n k) S1.size inb).toLoadRect.shape.Idx) :
    v.readAt (Elt F) (Rect.unit (s := S131072) (k1_off2 i n k) S1.size inb).toLoadRect f j = charAt (v.read (Elt F) f) i.val k.val := by
  have hi : i.val < 8192 := lt_of_lt_of_eq i.isLt outerTrips
  have hk : k.val < 16 := lt_of_lt_of_le (lt_of_lt_of_eq k.isLt (charTrips n hn)) hn
  refine readAt_at v f _ _ _ _ _ fun a => ?_
  rw [show k1_off2 i n k a = (![i.val * 16 + k.val] : Fin 1 → ℕ) a from congrFun (charOff i n hn k) a]
  match a with
  | ⟨0, _⟩ =>
    have h0 : (j 0).val < 1 := (j 0).isLt
    show (i.val * 16 + k.val) % 131072 = i.val * 16 + k.val + (j 0).val
    omega

section Loops

variable (c : Dev nD)
  (arg0 : Memref sig .tc .smem S8192 .i32) (harg0 : arg0.IsWhole) (arg1 : Memref sig .tc .smem S131072 .i32) (harg1 : arg1.IsWhole)
  (arg2 : Memref sig .tc .vmem S8192x256 .f32) (harg2 : arg2.IsWhole) (arg3 : Memref sig .tc .vmem S128x64 .f32) (harg3 : arg3.IsWhole)
  (arg4 : Memref sig .tc .vmem S64x512 .f32) (harg4 : arg4.IsWhole) (arg5 : Memref sig .tc .vmem S1x512 .f32) (harg5 : arg5.IsWhole)
  (arg6 : Memref sig .tc .vmem S128x512 .f32) (harg6 : arg6.IsWhole) (arg7 : Memref sig .tc .vmem S256x1024 .f32) (harg7 : arg7.IsWhole)
  (arg8 : Memref sig .tc .vmem S128x1024 .f32) (harg8 : arg8.IsWhole) (arg9 : Memref sig .tc .vmem S256x1024 .f32) (harg9 : arg9.IsWhole)
  (arg10 : Memref sig .tc .vmem S1x1024 .f32) (harg10 : arg10.IsWhole) (arg11 : Memref sig .tc .vmem S256x128 .f32) (harg11 : arg11.IsWhole)
  (arg12 : Memref sig .tc .vmem S1x128 .f32) (harg12 : arg12.IsWhole) (arg13 : Memref sig .tc .vmem S8192x1x128 .f32) (harg13 : arg13.IsWhole)
  (arg14 : Memref sig .tc .vmem S128x512 .f32) (harg14 : arg14.IsWhole)

/-- The character loop before trip `k`: the characters, the recurrent weights and the gate table untouched, the carry
    the first `k` characters' steps. The length's bound and the characters' range ride along. -/
abbrev charInv (X1 : Buf (Elt F) (arg1.view.loc (c : Thread nD τ))) (X6 : Buf (Elt F) (arg6.view.loc (c : Thread nD τ)))
    (X14 : Buf (Elt F) (arg14.view.loc (c : Thread nD τ))) (v16 : BitVec 32) (i : ℕ) (init : CSt F) (k : ℕ) (acc : CSt F) : sProp 𝕄 :=
  iprop(⌜v16.toNat ≤ 16⌝ ∗ ⌜∀ j, (arg1.view.read (Elt F) X1 j).toNat < 128⌝
    ∗ heldAt c arg1 X1 ∗ heldAt c arg6 X6 ∗ heldAt c arg14 X14
    ∗ ⌜acc = charIter (arg14.view.read (Elt F) X14) (arg6.view.read (Elt F) X6) (arg1.view.read (Elt F) X1) i init k⌝)

set_option warn.classDefReducibility false in
/-- The character loop's invariant, and one trip: the character read is in range, its row of the gate table and the
    recurrent weights give one step. -/
@[sl_loop] def charLoop (X1 : Buf (Elt F) (arg1.view.loc (c : Thread nD τ))) (X6 : Buf (Elt F) (arg6.view.loc (c : Thread nD τ)))
    (X14 : Buf (Elt F) (arg14.view.loc (c : Thread nD τ)))
    (k1_t1 : Fin k1_t1_loop.trips) (arg16 arg17 : FVec F S1x128 .f32) (arg18 arg19 : FVec F S1x256 .f32) (v16 : BitVec 32) (k1_hw1 : k1_chk1 k1_t1 v16)
    (init : FVec F S1x128 .f32 × FVec F S1x128 .f32) :
    LoopInvTy_k1_t2 (F := F) Unit ℕ UU ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 0#32 1#32 k1_t1 arg16 arg17 arg18 arg19 v16 k1_hw1 init where
  inv k acc := charInv c arg1 arg6 arg14 X1 X6 X14 v16 k1_t1.val init k acc
  step k acc := by
    iintro ⟨%hv, %hX, H1, H6, H14, %hacc⟩
    sl_unfold [k1_t2_body]
    sl_exec
    have hr : charLoop.sl.r c arg1 X1 k1_t1 v16 k1_hw1 k = charAt (arg1.view.read (Elt F) X1) k1_t1.val k.val :=
      readAt_char arg1.view X1 k1_t1 v16 hv k _ _
    have hw : (charLoop.sl.r c arg1 X1 k1_t1 v16 k1_hw1 k).toNat < 128 := by rw [hr]; exact hX _
    have hchk : k1_chk2 (charLoop.sl.r c arg1 X1 k1_t1 v16 k1_hw1 k) := rowOk _ hw
    sl_exec
    sl_step
    rw [readAt_tblRow arg14.view X14 _ hw, View.readAt_full, hr]
    isplitr; · ipureintro; exact hv
    isplitr; · ipureintro; exact hX
    isplitl [H1]; · iexact H1
    isplitl [H6]; · iexact H6
    isplitl [H14]; · iexact H14
    ipureintro
    show _ = charStep _ _ _ _
    rw [← hacc]; rfl

/-- The call's operands as the views read them. -/
abbrev opsOf (X0 : Buf (Elt F) (arg0.view.loc (c : Thread nD τ))) (X1 : Buf (Elt F) (arg1.view.loc (c : Thread nD τ)))
    (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ))) : Ops F :=
  ⟨arg0.view.read (Elt F) X0, arg1.view.read (Elt F) X1, arg2.view.read (Elt F) X2, arg3.view.read (Elt F) X3, arg4.view.read (Elt F) X4,
   arg5.view.read (Elt F) X5, arg6.view.read (Elt F) X6, arg7.view.read (Elt F) X7, arg8.view.read (Elt F) X8, arg9.view.read (Elt F) X9,
   arg10.view.read (Elt F) X10, arg11.view.read (Elt F) X11, arg12.view.read (Elt F) X12⟩

/-- The result's buffer before trip `k`: from its contents at entry, one row per word before `k`. -/
def outBuf (W : Ops F) (tbl : FVec F S128x512 .f32) (f0 : Buf (Elt F) (arg13.view.loc (c : Thread nD τ))) : ℕ → Buf (Elt F) (arg13.view.loc (c : Thread nD τ))
  | 0 => f0
  | k + 1 =>
    if h : k < k1_t1_loop.trips then
      arg13.view.writes (Elt F) (outBuf W tbl f0 k) [⟨Rect.unit (s := S8192x1x128) (k1_off7 ⟨k, h⟩) S1x1x128.size (k1_off7_inb ⟨k, h⟩), outRow W tbl k⟩]
    else outBuf W tbl f0 k

/-- The word loop before trip `k`: every operand untouched, the rows before `k` written, the carry the first `k`
    words'. -/
abbrev wordInv (W : Ops F) (X0 : Buf (Elt F) (arg0.view.loc (c : Thread nD τ))) (X1 : Buf (Elt F) (arg1.view.loc (c : Thread nD τ)))
    (X2 : Buf (Elt F) (arg2.view.loc (c : Thread nD τ)))
    (X6 : Buf (Elt F) (arg6.view.loc (c : Thread nD τ))) (X7 : Buf (Elt F) (arg7.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ))) (f0 : Buf (Elt F) (arg13.view.loc (c : Thread nD τ)))
    (X14 : Buf (Elt F) (arg14.view.loc (c : Thread nD τ))) (k : ℕ) (acc : St F) : sProp 𝕄 :=
  iprop(⌜∀ j, (W.lens j).toNat ≤ 16⌝ ∗ ⌜∀ j, (W.chars j).toNat < 128⌝
    ∗ heldAt c arg0 X0 ∗ heldAt c arg1 X1 ∗ heldAt c arg2 X2 ∗ heldAt c arg6 X6 ∗ heldAt c arg7 X7 ∗ heldAt c arg8 X8 ∗ heldAt c arg9 X9
    ∗ heldAt c arg10 X10 ∗ heldAt c arg11 X11 ∗ heldAt c arg12 X12
    ∗ heldAt c arg13 (outBuf c arg13 W (arg14.view.read (Elt F) X14) f0 k) ∗ heldAt c arg14 X14
    ∗ ⌜acc = wordIter W (arg14.view.read (Elt F) X14) k⌝)

set_option warn.classDefReducibility false in
/-- The word loop's invariant, and one trip: the length read is in range, the character loop runs on the carry, then
    one step of the word LSTM and its row of logits. -/
@[sl_loop] def wordLoop (X0 : Buf (Elt F) (arg0.view.loc (c : Thread nD τ))) (X1 : Buf (Elt F) (arg1.view.loc (c : Thread nD τ)))
    (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ))) (f0 : Buf (Elt F) (arg13.view.loc (c : Thread nD τ)))
    (X14 : Buf (Elt F) (arg14.view.loc (c : Thread nD τ)))
    (init : FVec F S1x128 .f32 × FVec F S1x128 .f32 × FVec F S1x256 .f32 × FVec F S1x256 .f32) :
    LoopInvTy_k1_t1 (F := F) Unit ℕ UU ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 init where
  inv k acc := iprop(heldAt c arg3 X3 ∗ heldAt c arg4 X4 ∗ heldAt c arg5 X5
    ∗ wordInv c arg0 arg1 arg2 arg6 arg7 arg8 arg9 arg10 arg11 arg12 arg13 arg14
        (opsOf c arg0 arg1 arg2 arg3 arg4 arg5 arg6 arg7 arg8 arg9 arg10 arg11 arg12 X0 X1 X2 X3 X4 X5 X6 X7 X8 X9 X10 X11 X12)
        X0 X1 X2 X6 X7 X8 X9 X10 X11 X12 f0 X14 k acc)
  step k acc := by
    iintro ⟨H3, H4, H5, %hL, %hX, H0, H1, H2, H6, H7, H8, H9, H10, H11, H12, H13, H14, %hacc⟩
    sl_unfold [k1_t1_body]
    rw [k1_part1_eq_skeleton]
    sl_unfold [k1_part1_skel]
    sl_exec
    have hr : wordLoop.sl.r c arg0 X0 k = lenAt (arg0.view.read (Elt F) X0) k.val := readAt_len arg0.view X0 k _ _
    have hv : (wordLoop.sl.r c arg0 X0 k).toNat ≤ 16 := by rw [hr]; exact hL _
    have hchk : k1_chk1 k (wordLoop.sl.r c arg0 X0 k) := lenOk k _ hv
    sl_exec
    simp only [Idealize.SL.Sem.Prog.bind_assoc]
    sl_exec
    sl_step
    dsimp only
    rw [show Scf.trips 0#32 (Scalar.addi 0#32 (Scalar.muli (Scalar.divsi (Scalar.subi (wordLoop.sl.r c arg0 X0 k) 0#32) 1#32) 1#32)) 1#32
        = (wordLoop.sl.r c arg0 X0 k).toNat from charTrips _ hv, hr]
    rw [readAt_weRow arg2.view X2 k, View.readAt_full arg7.view, View.readAt_full arg8.view, View.readAt_full arg9.view,
      View.readAt_full arg10.view, View.readAt_full arg11.view, View.readAt_full arg12.view]
    isplitl [H3]; · iexact H3
    isplitl [H4]; · iexact H4
    isplitl [H5]; · iexact H5
    isplitr; · ipureintro; exact hL
    isplitr; · ipureintro; exact hX
    isplitl [H0]; · iexact H0
    isplitl [H1]; · iexact H1
    isplitl [H2]; · iexact H2
    isplitl [H6]; · iexact H6
    isplitl [H7]; · iexact H7
    isplitl [H8]; · iexact H8
    isplitl [H9]; · iexact H9
    isplitl [H10]; · iexact H10
    isplitl [H11]; · iexact H11
    isplitl [H12]; · iexact H12
    subst hacc
    isplitl [H13]
    · rw [outBuf, dif_pos k.isLt]
      iexact H13
    isplitl [H14]; · iexact H14
    ipureintro
    rfl

end Loops

end Cert.Proof.Chain
-- ==== Proof.ChainRun.lean ====
/- The chain's body run: the gate table stored, then the word loop from zero. -/
module

public import proofs.«01_k».proof.Proof.ChainLoops

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A row just written, read back. -/
theorem read_row_same {sp : Space} (v : View sig .tc sp S8192x1x128 .f32) (f : v.ty.Contents (Elt F)) (off : Fin 3 → ℕ)
    (inb : ∀ a, off a + S1x1x128.size a ≤ S8192x1x128.size a) (w : FVec F S1x1x128 .f32) (k : ℕ) (hoff : off = ![k, 0, 0])
    (j : S8192x1x128.Idx) (h : (j 0).val = k) :
    v.read (Elt F) (v.writes (Elt F) f [⟨Rect.unit (s := S8192x1x128) off S1x1x128.size inb, w⟩]) j = w (ix3 0 0 (j 2)) := by
  subst hoff
  refine View.read_writes_cons_unit_of_mem v f inb w [] j (show S1x1x128.Idx from ix3 0 0 (j 2)) rfl ?_
  intro a
  match a with
  | ⟨0, _⟩ => show (j 0).val = k + 0; omega
  | ⟨1, _⟩ => have h1 : (j 1).val < 1 := (j 1).isLt; show (j 1).val = 0 + 0; omega
  | ⟨2, _⟩ => show (j 2).val = 0 + (j 2).val; omega

/-- The earlier rows keep what they held. -/
theorem read_row_other {sp : Space} (v : View sig .tc sp S8192x1x128 .f32) (f : v.ty.Contents (Elt F)) (off : Fin 3 → ℕ)
    (inb : ∀ a, off a + S1x1x128.size a ≤ S8192x1x128.size a) (w : FVec F S1x1x128 .f32) (k : ℕ) (hoff : off = ![k, 0, 0])
    (j : S8192x1x128.Idx) (h : (j 0).val < k) :
    v.read (Elt F) (v.writes (Elt F) f [⟨Rect.unit (s := S8192x1x128) off S1x1x128.size inb, w⟩]) j = v.read (Elt F) f j := by
  subst hoff
  exact View.read_writes_cons_unit_of_not_mem v f inb w [] j rfl 0 (Or.inl h)

section Run

variable (c : Dev nD)
  (arg0 : Memref sig .tc .smem S8192 .i32) (harg0 : arg0.IsWhole) (arg1 : Memref sig .tc .smem S131072 .i32) (harg1 : arg1.IsWhole)
  (arg2 : Memref sig .tc .vmem S8192x256 .f32) (harg2 : arg2.IsWhole) (arg3 : Memref sig .tc .vmem S128x64 .f32) (harg3 : arg3.IsWhole)
  (arg4 : Memref sig .tc .vmem S64x512 .f32) (harg4 : arg4.IsWhole) (arg5 : Memref sig .tc .vmem S1x512 .f32) (harg5 : arg5.IsWhole)
  (arg6 : Memref sig .tc .vmem S128x512 .f32) (harg6 : arg6.IsWhole) (arg7 : Memref sig .tc .vmem S256x1024 .f32) (harg7 : arg7.IsWhole)
  (arg8 : Memref sig .tc .vmem S128x1024 .f32) (harg8 : arg8.IsWhole) (arg9 : Memref sig .tc .vmem S256x1024 .f32) (harg9 : arg9.IsWhole)
  (arg10 : Memref sig .tc .vmem S1x1024 .f32) (harg10 : arg10.IsWhole) (arg11 : Memref sig .tc .vmem S256x128 .f32) (harg11 : arg11.IsWhole)
  (arg12 : Memref sig .tc .vmem S1x128 .f32) (harg12 : arg12.IsWhole) (arg13 : Memref sig .tc .vmem S8192x1x128 .f32) (harg13 : arg13.IsWhole)
  (arg14 : Memref sig .tc .vmem S128x512 .f32) (harg14 : arg14.IsWhole)

/-- What the result's buffer holds before trip `k`: the rows before `k` written, the others as at entry. -/
theorem read_outBuf (W : Ops F) (tbl : FVec F S128x512 .f32) (f0 : Buf (Elt F) (arg13.view.loc (c : Thread nD τ))) (k : ℕ) (hk : k ≤ 8192)
    (j : S8192x1x128.Idx) (hj : (j 0).val < k) :
    arg13.view.read (Elt F) (outBuf c arg13 W tbl f0 k) j = outRow W tbl (j 0).val (ix3 0 0 (j 2)) := by
  induction k with
  | zero => exact absurd hj (Nat.not_lt_zero _)
  | succ k ih =>
    have hlt : k < k1_t1_loop.trips := by rw [outerTrips]; omega
    rw [outBuf, dif_pos hlt]
    by_cases h : (j 0).val = k
    · exact (read_row_same arg13.view _ _ (k1_off7_inb ⟨k, hlt⟩) _ k (k1_off7_eq ⟨k, hlt⟩) j h).trans (by rw [h])
    · exact (read_row_other arg13.view _ _ (k1_off7_inb ⟨k, hlt⟩) _ k (k1_off7_eq ⟨k, hlt⟩) j (by omega)).trans (ih (by omega) (by omega))

/-- After the last trip it holds every word's row. -/
theorem read_outBuf_last (W : Ops F) (f0 : Buf (Elt F) (arg13.view.loc (c : Thread nD τ))) :
    arg13.view.read (Elt F) (outBuf c arg13 W (k1_pay1 W.cemb W.wc W.bc) f0 8192) = outArr W :=
  funext fun j => read_outBuf c arg13 W _ f0 8192 le_rfl j (j 0).isLt

/-- The body's run: every operand is left as it was, the result holds one row of logits per word. -/
theorem bodyRun (X0 : Buf (Elt F) (arg0.view.loc (c : Thread nD τ))) (X1 : Buf (Elt F) (arg1.view.loc (c : Thread nD τ)))
    (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ))) (f13 : Buf (Elt F) (arg13.view.loc (c : Thread nD τ)))
    (f14 : Buf (Elt F) (arg14.view.loc (c : Thread nD τ)))
    (hL : ∀ j, (arg0.view.read (Elt F) X0 j).toNat ≤ 16) (hX : ∀ j, (arg1.view.read (Elt F) X1 j).toNat < 128)
    (Q : PUnit → sProp 𝕄) :
    iprop(heldAt c arg0 X0 ∗ heldAt c arg1 X1 ∗ heldAt c arg2 X2 ∗ heldAt c arg3 X3 ∗ heldAt c arg4 X4 ∗ heldAt c arg5 X5 ∗ heldAt c arg6 X6
        ∗ heldAt c arg7 X7 ∗ heldAt c arg8 X8 ∗ heldAt c arg9 X9 ∗ heldAt c arg10 X10 ∗ heldAt c arg11 X11 ∗ heldAt c arg12 X12
        ∗ heldAt c arg13 f13 ∗ heldAt c arg14 f14
        ∗ ((heldAt c arg0 X0 ∗ heldAt c arg1 X1 ∗ heldAt c arg2 X2 ∗ heldAt c arg3 X3 ∗ heldAt c arg4 X4 ∗ heldAt c arg5 X5 ∗ heldAt c arg6 X6
            ∗ heldAt c arg7 X7 ∗ heldAt c arg8 X8 ∗ heldAt c arg9 X9 ∗ heldAt c arg10 X10 ∗ heldAt c arg11 X11 ∗ heldAt c arg12 X12
            ∗ heldAt c arg13 (outBuf c arg13
                (opsOf c arg0 arg1 arg2 arg3 arg4 arg5 arg6 arg7 arg8 arg9 arg10 arg11 arg12 X0 X1 X2 X3 X4 X5 X6 X7 X8 X9 X10 X11 X12)
                (k1_pay1 (arg3.view.read (Elt F) X3) (arg4.view.read (Elt F) X4) (arg5.view.read (Elt F) X5)) f13 8192)
            ∗ (∃ f, heldAt c arg14 f)) -∗ Q ⟨⟩))
      ⊢ wp frame (wpE (defs₀ (F := F)) 𝒱₀ (c : Thread nD τ) none) Set.univ
          (cc1_dual_tagger_chain arg0 harg0 arg1 harg1 arg2 harg2 arg3 harg3 arg4 harg4 arg5 harg5 arg6 harg6 arg7 harg7 arg8 harg8 arg9 harg9
            arg10 harg10 arg11 harg11 arg12 harg12 arg13 harg13 arg14 harg14) Q := by
  iintro ⟨H0, H1, H2, H3, H4, H5, H6, H7, H8, H9, H10, H11, H12, H13, H14, Hk⟩
  rw [cc1_dual_tagger_chain_eq_skeleton]
  sl_unfold [cc1_dual_tagger_chain_skel]
  sl_exec
  have htbl : arg14.view.read (Elt F) (arg14.view.writes (Elt F) arg14.view.junk (bodyRun.sl.H14_1 c arg3 arg4 arg5 X3 X4 X5))
      = k1_pay1 (arg3.view.read (Elt F) X3) (arg4.view.read (Elt F) X4) (arg5.view.read (Elt F) X5) := by
    unfold bodyRun.sl.H14_1
    rw [View.readAt_full arg3.view, View.readAt_full arg4.view, View.readAt_full arg5.view]
    exact View.read_writes_full arg14.view _ inb_S128x512_S128x512_0_0 _ []
  rw [htbl, show Scf.trips k1_t1_loop.lb k1_t1_loop.ub k1_t1_loop.st = 8192 from outerTrips]
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _; iexact H14

end Run

end Cert.Proof.Chain
-- ==== Proof.Region0.lean ====
/- The row gather's region: what its pipeline holds at each point, the body's run and obligation, and the array it leaves. -/
module

public import proofs.«01_k».proof.Proof.ChainRun
public import proofs.«01_k».proof.Proof.Gen.KernelIdeal.Launch
public import Idealize.ShloMosaic.Lib.Pipeline.RegionArraysTS
public import Idealize.ShloMosaic.Lib.Pipeline.FrameBody
public import Idealize.ShloMosaic.Lib.Pipeline.Value

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The body's run: the result's staging buffer ends as the input's. -/
theorem gatherRun (c : Dev nD) (i : grid0.Coords) (arg1 : Memref sig .tc .smem S8192 .i32) (harg1 : arg1.IsWhole)
    (arg2 : Memref sig .tc .vmem S1x1x256 .f32) (harg2 : arg2.IsWhole) (arg3 : Memref sig .tc .vmem S1x1x256 .f32) (harg3 : arg3.IsWhole)
    (X : Buf (Elt F) (arg2.view.loc (c : Thread nD τ))) (f : Buf (Elt F) (arg3.view.loc (c : Thread nD τ))) (Q : PUnit → sProp 𝕄) :
    iprop(heldAt c arg2 X ∗ heldAt c arg3 f
        ∗ ((heldAt c arg2 X ∗ ∃ f', ⌜arg3.view.read (Elt F) f' = arg2.view.read (Elt F) X⌝ ∗ heldAt c arg3 f') -∗ Q ⟨⟩))
      ⊢ wp frame (wpE (defs₀ (F := F)) 𝒱₀ (c : Thread nD τ) none) Set.univ (cc0_wemb_gather i arg1 harg1 arg2 harg2 arg3 harg3) Q := by
  iintro ⟨H2, H3, Hk⟩
  rw [cc0_wemb_gather_eq_skeleton]
  sl_unfold [cc0_wemb_gather_skel]
  sl_exec
  sl_step
  iapply Hk
  isplitl [H2]; · iexact H2
  iexists _
  isplitr; swap; · iexact H3
  ipureintro
  rw [View.read_writes_full arg3.view f inb_S1x1x256_S1x1x256_0_0_0 _ [], View.readAt_full arg2.view]
  exact shapeCast_self _ _

/-- The proof data at admissible tables `a`: the arrays at their entry contents; after the body both staging buffers hold the
    input's block; between the points the scoped buffers no window stages and the table; nothing owed; every share full. -/
def dat0 (a : (pcfg0 (F := F)).Adm) (V : Valuation τ sig (Elt F)) (c : Dev nD) : Dat τ (Elt F) Unit ℕ UU ℕ (cfg0 a) c where
  A w := V (Proc.devRef .tc (Pipeline.arrRef spec0 w))
  after w t := match w with
    | ⟨0, _⟩ => (((cfg0 a).win 0).blk t).view.read (Elt F) (V (Proc.devRef .tc main_v0))
    | ⟨1, _⟩ => (((cfg0 a).win 0).blk t).view.read (Elt F) (V (Proc.devRef .tc main_v0))
  Φ _ := iprop(Pipeline.scopedRest (Ix := Unit) (Name := ℕ) (U := UU) (Lvl := ℕ) (Val := Elt F) spec0 c
    ∗ Pipeline.prefHeld pre0 c (fun _ => fullShare) a.1)
  q _ := fullShare
  owed _ := 0

section Body

variable (a : (pcfg0 (F := F)).Adm) (V : Valuation τ sig (Elt F)) (c : Dev nD)

/-- The input's buffer holds its block when the body runs, fetched there or not. -/
theorem before0 (t : Fin (cfg0 a).N) (d : ((cfg0 a).win 0).block.Idx → Elt F ((cfg0 a).win 0).elt) :
    (dat0 a V c).before 0 t d = (dat0 a V c).after 0 t :=
  ((dat0 a V c).before_in_eq_fetched 0 rfl (fun _ => rfl) (fun _ _ _ => rfl) (fun _ => rfl) t d).trans rfl

/-- The library's body obligation. -/
theorem body_obligation0 : BodyObligation (dat0 a V c) (defs₀ (F := F)) 𝒱₀ () Set.univ := fun t => by
  rw [bigSep_W0, bigSep_W0]
  rw [show (dat0 a V c).Φ t.succ = (dat0 a V c).Φ t.castSucc from rfl]
  unfold Dat.owesAt Pipeline.owesWithin
  rw [show (dat0 a V c).owed t.castSucc = 0 from rfl, show (dat0 a V c).owed t.succ = 0 from rfl]
  iintro ⟨HΦ, ⟨%W, %hW, HO⟩, ⟨%d0, H0⟩, ⟨%d1, H1⟩⟩
  unfold owns
  icases H0 with ⟨%f0, %h0, H0⟩
  icases H1 with ⟨%f1, %h1, H1⟩
  replace h0 := h0.trans (before0 a V c t d0)
  iapply (gatherRun c (grid0.coords t) (Memref.whole main_arg0) (Memref.isWhole_whole _)
    (spec0_0.stage ((cfg0 a).slots t 0)) (hstage0_0 _) (spec0_1.stage ((cfg0 a).slots t 1)) (hstage0_1 _) f0 f1 _)
  isplitl [H0]; · iexact H0
  isplitl [H1]; · iexact H1
  iintro ⟨H0, ⟨%f', %hf', H1⟩⟩
  isplitl [HΦ]; · iexact HΦ
  isplitl [HO]
  · iexists W; isplitr; · ipureintro; exact fun _ _ => Or.inl trivial
    iexact HO
  isplitl [H0]
  · iexists _; isplitr; swap; (· iexact H0); ipureintro; exact h0
  iexists _; isplitr; swap; (· iexact H1); ipureintro; exact hf'.trans h0

/-- The point's one coordinate is the point. -/
theorem coord0 (t : Fin grid0.N) : (grid0.coords t 0).val = t.val := by
  rw [Pipeline.Grid.coords_val t 0 (S := 1) (B := 8192) (by decide) rfl, Nat.div_one]
  exact Nat.mod_eq_of_lt (N_0 ▸ t.isLt)

/-- What the region reads at row `i` of the table. -/
def rowOf (pf : pre0.Contents (Elt F)) (i : Fin 8192) : ℕ := ((pf 0 : IVec S8192 32) (ix1 i)).toNat

theorem transform0 (pf : pre0.Contents (Elt F)) (i : grid0.Coords) :
    cc0_transform_0 k0_off1_inb numel1_S1 pf i = ![rowOf pf (i 0), 0, 0] := by
  have h : (pf.at 0 (Rect.unit (s := S8192) (k0_off1 i) S1.size (k0_off1_inb i)) numel1_S1 : BitVec 32) = (pf 0 : IVec S8192 32) (ix1 (i 0)) := by
    refine congrArg (pf 0 : IVec S8192 32) (funext fun a => Fin.ext ?_)
    match a with
    | ⟨0, _⟩ =>
      show k0_off1 i 0 + 1 * _ = (i 0).val
      rw [show k0_off1 i 0 = (i 0).val from congrFun (k0_off1_eq i) 0]
      show (i 0).val + 1 * 0 = (i 0).val
      omega
  funext a
  match a with
  | ⟨0, _⟩ => exact congrArg BitVec.toNat h
  | ⟨1, _⟩ => rfl
  | ⟨2, _⟩ => rfl

theorem rowOf_lt (i : Fin 8192) : rowOf a.1 i < 100000 := by
  have h := (a.2 (fun | ⟨0, _⟩ => i)).elim fun h _ => h 0
  rw [transform0] at h
  have h' : (rowOf a.1 i + 1) * 1 ≤ 100000 := h
  omega

/-- The row of the input a row of the result is. -/
def srcIdx (j : S8192x1x256.Idx) : S100000x1x256.Idx := ix3 ⟨rowOf a.1 (j 0), rowOf_lt a (j 0)⟩ 0 (j 2)

theorem transform1 (t : Fin grid0.N) : cc0_transform_1 (grid0.coords t) = ![t.val, 0, 0] := by
  have h : (BitVec.ofNat 32 (grid0.coords t 0).val).toNat = t.val := by
    rw [coord0, BitVec.toNat_ofNat]
    have := Nat.lt_of_lt_of_eq t.isLt N_0
    exact Nat.mod_eq_of_lt (by omega)
  funext a
  match a with
  | ⟨0, _⟩ => exact h
  | ⟨1, _⟩ => rfl
  | ⟨2, _⟩ => rfl

/-- The result's block is written back at every point: the next one's is another. -/
theorem flush0 (t : Fin (cfg0 a).N) : ((cfg0 a).win 1).flush t = true := by
  have hi : ∀ t : Fin (cfg0 a).N, ((cfg0 a).win 1).index t = ![t.val, 0, 0] := fun t => transform1 t
  unfold Window.flush
  rw [Bool.and_eq_true]
  refine ⟨rfl, ?_⟩
  by_cases h : t.val + 1 = grid0.N
  · exact (Bool.or_eq_true _ _).mpr (.inl (decide_eq_true h))
  · refine (Bool.or_eq_true _ _).mpr (.inr (decide_eq_true ⟨Nat.lt_of_le_of_ne t.isLt h, fun e => ?_⟩))
    have e0 := congrFun ((hi _).symm.trans (e.trans (hi t))) 0
    have e1 : t.val + 1 = t.val := e0
    omega

/-- A result's element under the block at `t`: row `t`, the block's own lane. -/
theorem emb1 (t : Fin (cfg0 a).N) (y : S1x1x256.Idx) :
    ((((cfg0 a).win 1).blk t).view.emb y : S8192x1x256.Idx) = ix3 ⟨t.val, Nat.lt_of_lt_of_eq t.isLt N_0⟩ 0 (y 2) := by
  have h0 : (y 0).val < 1 := (y 0).isLt
  have h1 : (y 1).val < 1 := (y 1).isLt
  have e := transform1 t
  refine funext fun b => Fin.ext ?_
  match b with
  | ⟨0, _⟩ =>
    show cc0_transform_1 (grid0.coords t) 0 * 1 + 1 * (y 0).val = t.val
    rw [e]; show t.val * 1 + 1 * (y 0).val = t.val; omega
  | ⟨1, _⟩ =>
    show cc0_transform_1 (grid0.coords t) 1 * 1 + 1 * (y 1).val = 0
    rw [e]; show 0 * 1 + 1 * (y 1).val = 0; omega
  | ⟨2, _⟩ =>
    show cc0_transform_1 (grid0.coords t) 2 * 256 + 1 * (y 2).val = (y 2).val
    rw [e]; show 0 * 256 + 1 * (y 2).val = (y 2).val; omega

/-- An input's element under the block at `t`: the table's row there, the block's own lane. -/
theorem emb0 (t : Fin (cfg0 a).N) (y : S1x1x256.Idx) :
    ((((cfg0 a).win 0).blk t).view.emb y : S100000x1x256.Idx)
      = ix3 ⟨rowOf a.1 (grid0.coords t 0), rowOf_lt a (grid0.coords t 0)⟩ 0 (y 2) := by
  have h0 : (y 0).val < 1 := (y 0).isLt
  have h1 : (y 1).val < 1 := (y 1).isLt
  have e := transform0 a.1 (grid0.coords t)
  refine funext fun b => Fin.ext ?_
  match b with
  | ⟨0, _⟩ =>
    show cc0_transform_0 k0_off1_inb numel1_S1 a.1 (grid0.coords t) 0 * 1 + 1 * (y 0).val = rowOf a.1 (grid0.coords t 0)
    rw [e]; show rowOf a.1 (grid0.coords t 0) * 1 + 1 * (y 0).val = _; omega
  | ⟨1, _⟩ =>
    show cc0_transform_0 k0_off1_inb numel1_S1 a.1 (grid0.coords t) 1 * 1 + 1 * (y 1).val = 0
    rw [e]; show 0 * 1 + 1 * (y 1).val = 0; omega
  | ⟨2, _⟩ =>
    show cc0_transform_0 k0_off1_inb numel1_S1 a.1 (grid0.coords t) 2 * 256 + 1 * (y 2).val = (y 2).val
    rw [e]; show 0 * 256 + 1 * (y 2).val = (y 2).val; omega

/-- The input's block at a point is the result's block's source. -/
theorem src_eq (t : Fin (cfg0 a).N) (y : S1x1x256.Idx) :
    ((((cfg0 a).win 0).blk t).view.emb y : S100000x1x256.Idx) = srcIdx a ((((cfg0 a).win 1).blk t).view.emb y) := by
  rw [emb0, show ((((cfg0 a).win 1).blk t).view.emb y : S8192x1x256.Idx) = _ from emb1 a t y]
  refine funext fun b => Fin.ext ?_
  match b with
  | ⟨0, _⟩ => exact congrArg (rowOf a.1) (Fin.ext (coord0 t))
  | ⟨1, _⟩ => rfl
  | ⟨2, _⟩ => rfl

/-- Every element of the result is under some point's block. -/
theorem cover0 (j : S8192x1x256.Idx) : ∃ t : Fin (cfg0 a).N, ((cfg0 a).win 1).flush t = true ∧ j ∈ (((cfg0 a).win 1).blk t).view.set := by
  obtain ⟨t, ht⟩ : ∃ t : Fin grid0.N, t.val = (j 0).val := ⟨⟨(j 0).val, Nat.lt_of_lt_of_eq (j 0).isLt N_0.symm⟩, rfl⟩
  have e : (ix3 ⟨t.val, Nat.lt_of_lt_of_eq t.isLt N_0⟩ 0 (j 2) : S8192x1x256.Idx) = j := by
    refine funext fun b => Fin.ext ?_
    match b with
    | ⟨0, _⟩ => exact ht
    | ⟨1, _⟩ => have h1 : (j 1).val < 1 := (j 1).isLt; show 0 = (j 1).val; omega
    | ⟨2, _⟩ => rfl
  have h := View.emb_mem_set (((cfg0 a).win 1).blk t).view (ix3 0 0 (j 2) : S1x1x256.Idx)
  have e' := (emb1 a t (ix3 0 0 (j 2))).trans e
  exact ⟨t, flush0 a t, Eq.mp (congrArg (fun x : S8192x1x256.Idx => x ∈ (((cfg0 a).win 1).blk t).view.set) e') h⟩

/-- Every row of the result is the table's row of the input, after the run. -/
theorem final0 : (dat0 a V c).arrAt 1 (cfg0 a).N = fun j : S8192x1x256.Idx => V (Proc.devRef .tc main_v0) (srcIdx a j) :=
  (dat0 a V c).arrAt_eq_of_cover 1 _
    (fun t _ => funext fun y => congrArg (V (Proc.devRef .tc main_v0)) (src_eq a t y)) (cover0 a)

end Body

end Cert.Proof.Chain
-- ==== Proof.Region1.lean ====
/- The chain's region: what its pipeline holds at each point, and the body's obligation. -/
module

public import proofs.«01_k».proof.Proof.ChainRun
public import proofs.«01_k».proof.Proof.Gen.KernelIdeal.Launch
public import Idealize.ShloMosaic.Lib.Pipeline.RegionArraysTS
public import Idealize.ShloMosaic.Lib.Pipeline.Value

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The one block of a window over its whole array reads as the array does. -/
theorem whole_read {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (X : arr.view.ty.Contents (Elt F)) :
    ((Window.whole arr isOut sync stage sem harr hstage).blk t).view.read (Elt F) X = arr.view.read (Elt F) X :=
  funext fun y => congrArg (arr.view.read (Elt F) X) (funext fun a => Fin.ext
    ((Window.whole arr isOut sync stage sem harr hstage).rect_emb_val_of_index_zero t a rfl y))

/-- The chain's operands as the arrays hold them when the region is entered. -/
def opsV (V : Valuation τ sig (Elt F)) : Ops F where
  lens := V (Proc.devRef .tc main_arg2)
  chars := V (Proc.devRef .tc main_v3)
  we := V (Proc.devRef .tc main_v2)
  cemb := V (Proc.devRef .tc main_arg4)
  wc := V (Proc.devRef .tc main_v4)
  bc := V (Proc.devRef .tc main_v6)
  uc := V (Proc.devRef .tc main_v5)
  ww := V (Proc.devRef .tc main_v8)
  wh := V (Proc.devRef .tc main_v10)
  uw := V (Proc.devRef .tc main_v11)
  bw := V (Proc.devRef .tc main_v12)
  wo := V (Proc.devRef .tc main_v16)
  bo := V (Proc.devRef .tc main_v20)

/-- The proof data: the arrays at their entry contents; each input's block left as fetched, the result's at the rows of the
    chain; between the points the scoped buffers no window stages; nothing owed; every share full. -/
def dat1 (V : Valuation τ sig (Elt F)) (c : Dev nD) : Dat τ (Elt F) Unit ℕ UU ℕ cfg1 c where
  A w := V (Proc.devRef .tc (Pipeline.arrRef spec1 w))
  after w _ := match w with
    | ⟨0, _⟩ => V (Proc.devRef .tc main_arg2)
    | ⟨1, _⟩ => V (Proc.devRef .tc main_v3)
    | ⟨2, _⟩ => V (Proc.devRef .tc main_v2)
    | ⟨3, _⟩ => V (Proc.devRef .tc main_arg4)
    | ⟨4, _⟩ => V (Proc.devRef .tc main_v4)
    | ⟨5, _⟩ => V (Proc.devRef .tc main_v6)
    | ⟨6, _⟩ => V (Proc.devRef .tc main_v5)
    | ⟨7, _⟩ => V (Proc.devRef .tc main_v8)
    | ⟨8, _⟩ => V (Proc.devRef .tc main_v10)
    | ⟨9, _⟩ => V (Proc.devRef .tc main_v11)
    | ⟨10, _⟩ => V (Proc.devRef .tc main_v12)
    | ⟨11, _⟩ => V (Proc.devRef .tc main_v16)
    | ⟨12, _⟩ => V (Proc.devRef .tc main_v20)
    | ⟨13, _⟩ => outArr (opsV V)
  Φ _ := Pipeline.scopedRest (Ix := Unit) (Name := ℕ) (U := UU) (Lvl := ℕ) (Val := Elt F) spec1 c
  q _ := fullShare
  owed _ := 0

omit [FloatOps F] in
/-- A whole buffer held through its view is the buffer held. -/
theorem heldAt_whole (c : Dev nD) (b : Ref sig .tc) (f : Buf (Elt F) ((c : Thread nD τ).loc b)) :
    (heldAt c (Memref.whole b) f : sProp 𝕄) = iprop(((c : Thread nD τ).loc b) ↦{fullShare} f) :=
  congrArg (fun S => (pointsTo ((c : Thread nD τ).loc b) S fullShare f : sProp 𝕄)) (View.set_whole b)

set_option maxHeartbeats 4000000 in
/-- The body's run on the staging buffers: the inputs as they were, the result's at the chain's rows. -/
theorem stagedRun (c : Dev nD) (X0 : Buf (Elt F) ((c : Thread nD τ).loc cc1_stg0_0)) (X1 : Buf (Elt F) ((c : Thread nD τ).loc cc1_stg1_0)) (X2 : Buf (Elt F) ((c : Thread nD τ).loc cc1_stg2_0)) (X3 : Buf (Elt F) ((c : Thread nD τ).loc cc1_stg3_0)) (X4 : Buf (Elt F) ((c : Thread nD τ).loc cc1_stg4_0)) (X5 : Buf (Elt F) ((c : Thread nD τ).loc cc1_stg5_0)) (X6 : Buf (Elt F) ((c : Thread nD τ).loc cc1_stg6_0)) (X7 : Buf (Elt F) ((c : Thread nD τ).loc cc1_stg7_0)) (X8 : Buf (Elt F) ((c : Thread nD τ).loc cc1_stg8_0)) (X9 : Buf (Elt F) ((c : Thread nD τ).loc cc1_stg9_0)) (X10 : Buf (Elt F) ((c : Thread nD τ).loc cc1_stg10_0)) (X11 : Buf (Elt F) ((c : Thread nD τ).loc cc1_stg11_0)) (X12 : Buf (Elt F) ((c : Thread nD τ).loc cc1_stg12_0)) (X13 : Buf (Elt F) ((c : Thread nD τ).loc cc1_stg13_0))
    (fs : Buf (Elt F) ((c : Thread nD τ).loc cc1_scratch0)) (W : Ops F) (hW : W = ⟨X0 , X1 , X2 , X3 , X4 , X5 , X6 , X7 , X8 , X9 , X10 , X11 , X12⟩)
    (hR : InRange W) (Q : PUnit → sProp 𝕄) :
    iprop((((c : Thread nD τ).loc cc1_stg0_0) ↦{fullShare} X0) ∗ (((c : Thread nD τ).loc cc1_stg1_0) ↦{fullShare} X1) ∗ (((c : Thread nD τ).loc cc1_stg2_0) ↦{fullShare} X2) ∗ (((c : Thread nD τ).loc cc1_stg3_0) ↦{fullShare} X3) ∗ (((c : Thread nD τ).loc cc1_stg4_0) ↦{fullShare} X4) ∗ (((c : Thread nD τ).loc cc1_stg5_0) ↦{fullShare} X5) ∗ (((c : Thread nD τ).loc cc1_stg6_0) ↦{fullShare} X6) ∗ (((c : Thread nD τ).loc cc1_stg7_0) ↦{fullShare} X7) ∗ (((c : Thread nD τ).loc cc1_stg8_0) ↦{fullShare} X8) ∗ (((c : Thread nD τ).loc cc1_stg9_0) ↦{fullShare} X9) ∗ (((c : Thread nD τ).loc cc1_stg10_0) ↦{fullShare} X10) ∗ (((c : Thread nD τ).loc cc1_stg11_0) ↦{fullShare} X11) ∗ (((c : Thread nD τ).loc cc1_stg12_0) ↦{fullShare} X12) ∗ (((c : Thread nD τ).loc cc1_stg13_0) ↦{fullShare} X13)
        ∗ (((c : Thread nD τ).loc cc1_scratch0) ↦{fullShare} fs)
        ∗ (((((c : Thread nD τ).loc cc1_stg0_0) ↦{fullShare} X0) ∗ (((c : Thread nD τ).loc cc1_stg1_0) ↦{fullShare} X1) ∗ (((c : Thread nD τ).loc cc1_stg2_0) ↦{fullShare} X2) ∗ (((c : Thread nD τ).loc cc1_stg3_0) ↦{fullShare} X3) ∗ (((c : Thread nD τ).loc cc1_stg4_0) ↦{fullShare} X4) ∗ (((c : Thread nD τ).loc cc1_stg5_0) ↦{fullShare} X5) ∗ (((c : Thread nD τ).loc cc1_stg6_0) ↦{fullShare} X6) ∗ (((c : Thread nD τ).loc cc1_stg7_0) ↦{fullShare} X7) ∗ (((c : Thread nD τ).loc cc1_stg8_0) ↦{fullShare} X8) ∗ (((c : Thread nD τ).loc cc1_stg9_0) ↦{fullShare} X9) ∗ (((c : Thread nD τ).loc cc1_stg10_0) ↦{fullShare} X10) ∗ (((c : Thread nD τ).loc cc1_stg11_0) ↦{fullShare} X11) ∗ (((c : Thread nD τ).loc cc1_stg12_0) ↦{fullShare} X12)
            ∗ (∃ f : Buf (Elt F) ((c : Thread nD τ).loc cc1_stg13_0), ⌜f = outArr W⌝ ∗ (((c : Thread nD τ).loc cc1_stg13_0) ↦{fullShare} f))
            ∗ (∃ f, ((c : Thread nD τ).loc cc1_scratch0) ↦{fullShare} f)) -∗ Q ⟨⟩))
      ⊢ wp frame (wpE (defs₀ (F := F)) 𝒱₀ (c : Thread nD τ) none) Set.univ (defs₀ (F := F) .tc 1 (t1_0, cfg1.slots t1_0)) Q := by
  subst hW
  have h := bodyRun c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole cc1_stg8_0) (Memref.isWhole_whole _) (Memref.whole cc1_stg9_0) (Memref.isWhole_whole _) (Memref.whole cc1_stg10_0) (Memref.isWhole_whole _) (Memref.whole cc1_stg11_0) (Memref.isWhole_whole _) (Memref.whole cc1_stg12_0) (Memref.isWhole_whole _) (Memref.whole cc1_stg13_0) (Memref.isWhole_whole _)
    (Memref.whole cc1_scratch0) (Memref.isWhole_whole _) X0 X1 X2 X3 X4 X5 X6 X7 X8 X9 X10 X11 X12 X13 fs (fun j => (hR.len j).2) hR.chr Q
  refine .trans ?_ h
  simp only [← heldAt_whole]
  iintro ⟨H0, H1, H2, H3, H4, H5, H6, H7, H8, H9, H10, H11, H12, H13, Hs, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs]; · iexact Hs
  iintro ⟨H0, H1, H2, H3, H4, H5, H6, H7, H8, H9, H10, H11, H12, H13, Hs⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; (· iexact H13)
    ipureintro; exact read_outBuf_last c (Memref.whole cc1_stg13_0) _ X13
  iexact Hs

section Body

variable (V : Valuation τ sig (Elt F)) (c : Dev nD)

/-- An input's buffer holds its array when the body runs. -/
theorem before1 (w : Fin 14) (hw : w ≠ 13) (d : (cfg1.win w).block.Idx → Elt F (cfg1.win w).elt) :
    (dat1 V c).before w t1_0 d = (dat1 V c).after w t1_0 := by
  unfold Dat.before
  fin_cases w <;> first
    | exact absurd rfl hw
    | (rw [if_pos (by decide)]
       refine funext fun y => ?_
       exact congrArg (V (Proc.devRef .tc (Pipeline.arrRef spec1 _))) (funext fun a => Fin.ext (by
         show 0 * _ + 1 * (y a).val = (y a).val
         rw [Nat.zero_mul, Nat.zero_add, Nat.one_mul])))

set_option maxHeartbeats 4000000 in
/-- The library's body obligation: the staging buffers and the scratch taken apart, the body run, its post reassembled. -/
theorem body_obligation1 (hR : InRange (opsV V)) :
    BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = Pipeline.scopedRest (Ix := Unit) (Name := ℕ) (U := UU) (Lvl := ℕ) (Val := Elt F) spec1 c from rfl,
    show (dat1 V c).Φ t1_0.succ = Pipeline.scopedRest (Ix := Unit) (Name := ℕ) (U := UU) (Lvl := ℕ) (Val := Elt F) spec1 c from rfl]
  unfold Dat.owesAt Pipeline.owesWithin
  rw [scopedRest1_eq]
  rw [show (dat1 V c).owed t1_0.castSucc = 0 from rfl, show (dat1 V c).owed t1_0.succ = 0 from rfl]
  iintro ⟨⟨Hs0, Hs1, Hs2, Hs3, ⟨%fs, Hs⟩⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩⟩
  clear h13
  rw [before1 V c 0 (by decide)] at h0
  rw [before1 V c 1 (by decide)] at h1
  rw [before1 V c 2 (by decide)] at h2
  rw [before1 V c 3 (by decide)] at h3
  rw [before1 V c 4 (by decide)] at h4
  rw [before1 V c 5 (by decide)] at h5
  rw [before1 V c 6 (by decide)] at h6
  rw [before1 V c 7 (by decide)] at h7
  rw [before1 V c 8 (by decide)] at h8
  rw [before1 V c 9 (by decide)] at h9
  rw [before1 V c 10 (by decide)] at h10
  rw [before1 V c 11 (by decide)] at h11
  rw [before1 V c 12 (by decide)] at h12
  iapply (stagedRun c f0 f1 f2 f3 f4 f5 f6 f7 f8 f9 f10 f11 f12 f13 fs (opsV V) (by subst h0; subst h1; subst h2; subst h3; subst h4; subst h5; subst h6; subst h7; subst h8; subst h9; subst h10; subst h11; subst h12; rfl) hR _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs]; · iexact Hs
  iintro ⟨H0, H1, H2, H3, H4, H5, H6, H7, H8, H9, H10, H11, H12, H13, Hs⟩
  isplitl [Hs0 Hs1 Hs2 Hs3 Hs]
  · isplitl [Hs0]; · iexact Hs0
    isplitl [Hs1]; · iexact Hs1
    isplitl [Hs2]; · iexact Hs2
    isplitl [Hs3]; · iexact Hs3
    iexact Hs
  isplitl [HO]
  · iexists W; isplitr; · ipureintro; exact fun _ _ => Or.inl trivial
    iexact HO
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]; · iexists _; isplitr; swap; (· iexact H8); ipureintro; exact h8
  isplitl [H9]; · iexists _; isplitr; swap; (· iexact H9); ipureintro; exact h9
  isplitl [H10]; · iexists _; isplitr; swap; (· iexact H10); ipureintro; exact h10
  isplitl [H11]; · iexists _; isplitr; swap; (· iexact H11); ipureintro; exact h11
  isplitl [H12]; · iexists _; isplitr; swap; (· iexact H12); ipureintro; exact h12
  iexact H13

/-- The one block of the result's array is the array, element by element. -/
theorem emb13 (j : S8192x1x128.Idx) : (((cfg1.win 13).blk t1_0).view.emb j : S8192x1x128.Idx) = j :=
  funext fun a => Fin.ext ((cfg1.win 13).rect_emb_val_of_index_zero t1_0 a rfl j)

/-- The result's array, after the run, is the model's. -/
theorem final1 : (dat1 V c).arrAt 13 cfg1.N = outArr (opsV V) :=
  (dat1 V c).arrAt_eq_of_cover 13 _
    (fun t _ => by
      obtain rfl := fin_N1 t
      exact funext fun y => congrArg (outArr (opsV V)) (emb13 y).symm)
    (fun j => ⟨t1_0, by decide, Eq.mp (congrArg (fun x : S8192x1x128.Idx => x ∈ ((cfg1.win 13).blk t1_0).view.set) (emb13 j))
      (View.emb_mem_set ((cfg1.win 13).blk t1_0).view j)⟩)

end Body

end Cert.Proof.Chain

end
-- ==== Proof.Run.lean ====
/- The launch: the two regions between the host operations, and what every unscoped buffer holds when @main has run. -/
module

public import proofs.«01_k».proof.Proof.Region0
public import proofs.«01_k».proof.Proof.Region1
public import proofs.«01_k».proof.Proof.Gen.KernelIdeal.Regions

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg)

variable {F : FTy → Type} [FloatOps F]

local notation "𝕄" => MT nD τ sig Unit (Elt F) ℕ UU ℕ

variable (m : (ℓ : Loc nD τ sig) → Buf (Elt F) ℓ)

/-- The row table as launched: the gather's one table. -/
abbrev tbl (c : Dev nD) : pre0.Contents (Elt F) := fun | ⟨0, _⟩ => m (c, Proc.devRef .tc main_arg0)

/-- A row table under the table's height is admissible. -/
theorem ok_of_lt (pf : pre0.Contents (Elt F)) (h : ∀ i : Fin 8192, rowOf pf i < 100000) : ok0 pf := fun i =>
  ⟨fun a => by
    rw [transform0]
    match a with
    | ⟨0, _⟩ => have := h (i 0); show (rowOf pf (i 0) + 1) * 1 ≤ 100000; omega
    | ⟨1, _⟩ => show (0 + 1) * 1 ≤ 1; omega
    | ⟨2, _⟩ => show (0 + 1) * 256 ≤ 256; omega, .inl rfl⟩

section Launch

variable (h0 : ok0 (tbl m 0))

/-- Each region's tables: the gather's is the one launched, the chain has none. -/
def adm : (p : Fin 2) → (pcfgs (F := F) p).Adm
  | ⟨0, _⟩ => ⟨tbl m 0, h0⟩
  | ⟨1, _⟩ => cfg1.toPCfg_adm
  | ⟨_ + 2, h⟩ => absurd h (Nat.not_lt.2 (Nat.le_add_left _ _))

/-- What the gather's region leaves. -/
def outsA : Outs (F := F) := fun _ r c => Pipeline.afterRegion (dat0 (adm m h0 0) (V1 m c) c) (V1 m c) (Proc.devRef .tc r)

/-- What the regions leave: the gather's at item 2, the chain's at item 4. -/
def outs : Outs (F := F) := fun k r c =>
  if k = 2 then outsA m h0 k r c
  else Pipeline.afterRegion (dat1 (V3 m (outsA m h0) c) c) (V3 m (outsA m h0) c) (Proc.devRef .tc r)

/-- The buffers at the chain's region are the same read with either. -/
theorem V3_outs (c : Dev nD) : V3 m (outs m h0) c = V3 m (outsA m h0) c := rfl

/-- Each region's proof data. -/
def pdats : (p : Fin 2) → (c : Dev nD) → Dat τ (Elt F) Unit ℕ UU ℕ (Pipeline.pin (pcfgs (F := F)) (adm m h0) p) c
  | ⟨0, _⟩ => fun c => dat0 (adm m h0 0) (V1 m c) c
  | ⟨1, _⟩ => fun c => dat1 (V3 m (outs m h0) c) c
  | ⟨_ + 2, h⟩ => absurd h (Nat.not_lt.2 (Nat.le_add_left _ _))

/-- The one level, at every TensorCore's cell. -/
abbrev L : GSem nD τ sig → Finset Unit := fun g => if g.1.2 = .tc then {()} else ∅
abbrev lv : GSem nD τ sig → Unit → ℕ := fun _ _ => 0

/-- What rides beside the buffers between the items: the core owing nothing. -/
abbrev E : Fin 3 → Dev nD → sProp 𝕄 := fun _ c =>
  iprop((∃ Wd, owes (c : Thread nD τ) (0 : CellTallies nD τ sig Unit) Wd) ∗ BI.emp ∗ BI.emp)

theorem cut (p : Fin 2) : Pipeline.LevelCut (pcfgs (F := F)) (adm m h0) () L lv p (fun _ => 0) (fun _ => 0) where
  hι c w s := by show () ∈ (if _ then _ else _); rw [if_pos rfl]; exact Finset.mem_singleton_self _
  hιb c w s := le_rfl
  hD c g i h := absurd h (Nat.lt_irrefl 0)

theorem tbl_eq (c : Dev nD) (k : Fin pre0.K) : (adm m h0 0).1 k = V1 m c (Proc.devRef .tc (pre0.ref k)) := by
  obtain rfl : c = 0 := Subsingleton.elim _ _
  match k with
  | ⟨0, _⟩ => exact (V1_of m 0 main_arg0 (by decide)).symm

set_option backward.isDefEq.respectTransparency.types false in
/-- The gather's region. -/
def R0 : RegionSeg (pcfgs (F := F)) (adm m h0) (pdats m h0) () defs₀ 𝒱₀ L lv 0 :=
  RegionSeg.ofHeldInT (pcfgs (F := F)) (adm m h0) (pdats m h0) () defs₀ 𝒱₀ L lv 0 (fun _ => 0) (Pipeline.ucRefs τ sig)
    (fun _ => BI.emp) (fun _ => BI.emp) launch0
    (fun c => (body_obligation0 (adm m h0 0) (V1 m c) c).loose) (fun _ _ => rfl) (fun _ => rfl)
    (fun c => (pdats m h0 0 c).share_full fun _ => rfl)
    (fun c => by
      show _ ⊢ iprop(Pipeline.scopedRest spec0 c ∗ Pipeline.prefHeld pre0 c (fun _ => fullShare) (adm m h0 0).1)
      iintro ⟨⟨Hs, -⟩, Ht⟩
      isplitl [Hs]; · iexact Hs
      iexact Ht)
    (fun c => by
      show iprop(Pipeline.scopedRest spec0 c ∗ Pipeline.prefHeld pre0 c (fun _ => fullShare) (adm m h0 0).1) ⊢ _
      iintro ⟨Hs, Ht⟩
      isplitl [Hs]
      · isplitl [Hs]; · iexact Hs
        iempintro
      iexact Ht)
    (fun _ => 0) (cut m h0 0) (fun _ => BI.emp) (V1 m) (fun _ _ => rfl) (fun c k => tbl_eq m h0 c k)

set_option backward.isDefEq.respectTransparency.types false in
/-- The chain's region, its lengths and characters in range. -/
def R1 (hR : ∀ c, InRange (opsV (V3 m (outs m h0) c))) : RegionSeg (pcfgs (F := F)) (adm m h0) (pdats m h0) () defs₀ 𝒱₀ L lv 1 :=
  RegionSeg.ofHeldIn (pcfgs (F := F)) (adm m h0) (pdats m h0) () defs₀ 𝒱₀ L lv 1 (fun _ => 0) (Pipeline.ucRefs τ sig)
    (fun _ => BI.emp) (fun _ => BI.emp) launch1 rfl
    (fun c => (body_obligation1 (V3 m (outs m h0) c) c (hR c)).loose) (fun _ _ => rfl) (fun _ => rfl)
    (fun c => (pdats m h0 1 c).share_full fun _ => rfl)
    (fun c => by
      show _ ⊢ Pipeline.scopedRest spec1 c
      iintro ⟨Hs, -⟩
      iexact Hs)
    (fun c => by
      show Pipeline.scopedRest spec1 c ⊢ _
      iintro Hs
      isplitl [Hs]; · iexact Hs
      iempintro)
    (fun _ => 0) (cut m h0 1) (fun _ => BI.emp) (V3 m (outs m h0)) (fun _ _ => rfl)

theorem sub0 : Pipeline.arrRefs (τ := τ) (pcfgs (F := F) 0).spec ⊆ Pipeline.ucRefs τ sig :=
  Pipeline.arrRefs_sub_ucRefs spec0 (by decide)
theorem sub0' : Pipeline.tblRefs (τ := τ) (pcfgs (F := F) 0).pre ⊆ Pipeline.ucRefs τ sig := fun b hb => by
  obtain ⟨r, hr, rfl⟩ := Finset.mem_map.mp hb
  obtain ⟨k, -, rfl⟩ := Finset.mem_image.mp hr
  exact Finset.mem_filter.mpr ⟨StableHlo.devRef_mem_tcRefs _, by
    match k with | ⟨0, _⟩ => exact (by decide : ¬ (Proc.devRef .tc main_arg0 : DevRef τ sig).isScoped = true)⟩
theorem sub1 : Pipeline.arrRefs (τ := τ) (pcfgs (F := F) 1).spec ⊆ Pipeline.ucRefs τ sig :=
  Pipeline.arrRefs_sub_ucRefs spec1 (by decide)

/-- The gather's region changes its result's buffer only. -/
theorem after0 (c : Dev nD) (r : Ref sig .tc) :
    Pipeline.afterRegion (dat0 (adm m h0 0) (V1 m c) c) (V1 m c) (Proc.devRef .tc r) = V2 m (outs m h0) c (Proc.devRef .tc r) := by
  by_cases h : r = main_v1
  · subst h
    show _ = Function.update (V1 m c) (Proc.devRef .tc main_v1) _ (Proc.devRef .tc main_v1)
    rw [Function.update_self]
    rfl
  · exact (Pipeline.afterRegion_keeps _ _ (launch0 (F := F)).win.arr_inj (fun _ => rfl) r (fun w e => by
      match w with
      | ⟨0, _⟩ => rfl
      | ⟨1, _⟩ => exact absurd e.symm h)).trans (V2_of m (outs m h0) c r (by simpa using h)).symm

/-- Every window of the chain's region but the last is an input. -/
theorem in1 : ∀ w : Fin 14, w ≠ 13 → (cfg1.win w).isOut = false := by decide

/-- The chain's region changes its result's buffer only. -/
theorem after1 (c : Dev nD) (r : Ref sig .tc) :
    Pipeline.afterRegion (dat1 (V3 m (outs m h0) c) c) (V3 m (outs m h0) c) (Proc.devRef .tc r) = V4 m (outs m h0) c (Proc.devRef .tc r) := by
  by_cases h : r = main_v21
  · subst h
    show _ = Function.update (V3 m (outs m h0) c) (Proc.devRef .tc main_v21) _ (Proc.devRef .tc main_v21)
    rw [Function.update_self]
    rfl
  · exact (Pipeline.afterRegion_keeps _ _ (launch1 (F := F)).win.arr_inj (fun _ => rfl) r (fun w e => by
      by_cases hw : w = 13
      · subst hw; exact absurd e.symm h
      · exact in1 w hw)).trans (V4_of m (outs m h0) c r (by simpa using h)).symm

/-- The buffers before the gather's region enter it; -/
theorem pre0_link (c : Dev nD) : iprop(StableHlo.held (c : Thread nD τ) (Pipeline.ucRefs τ sig) (V1 m c) ∗ E (F := F) 0 c) ⊢ (R0 m h0).pre c :=
  by
    unfold R0
    exact RegionSeg.ofHeldInT_pre (pcs := pcfgs (F := F)) (a := adm m h0) (pdats := pdats m h0) (p := 0) (D := fun _ => 0)
      (S := Pipeline.ucRefs τ sig) (sub0 (F := F)) (sub0' (F := F)) (X := fun _ => BI.emp) (Y := fun _ => BI.emp)
      (W := V1 m) (R := fun _ => BI.emp) c

/-- and the region leaves them at the next valuation. -/
theorem post0_link (c : Dev nD) : (R0 m h0).post c ⊢ iprop(StableHlo.held (c : Thread nD τ) (Pipeline.ucRefs τ sig) (V2 m (outs m h0) c) ∗ E (F := F) 1 c) :=
  (RegionSeg.ofHeldInT_post (sub0 (F := F)) (sub0' (F := F)) c).trans
    (sep_mono (Entails.of_eq (StableHlo.held_congr (c : Thread nD τ) (fun b hb => by
      obtain ⟨r, -, rfl⟩ := Finset.mem_map.mp (Finset.mem_filter.mp hb).1
      exact after0 m h0 c r))) .rfl)

section Chain

variable (hR : ∀ c, InRange (opsV (V3 m (outs m h0) c)))

/-- The buffers before the chain's region enter it; -/
theorem pre1_link (c : Dev nD) : iprop(StableHlo.held (c : Thread nD τ) (Pipeline.ucRefs τ sig) (V3 m (outs m h0) c) ∗ E (F := F) 1 c) ⊢ (R1 m h0 hR).pre c :=
  by
    unfold R1
    exact RegionSeg.ofHeldIn_pre (pcs := pcfgs (F := F)) (a := adm m h0) (pdats := pdats m h0) (p := 1) (D := fun _ => 0)
      (S := Pipeline.ucRefs τ sig) (sub1 (F := F)) (X := fun _ => BI.emp) (Y := fun _ => BI.emp)
      (W := V3 m (outs m h0)) (R := fun _ => BI.emp) c

/-- and the region leaves them at the next valuation. -/
theorem post1_link (c : Dev nD) : (R1 m h0 hR).post c ⊢ iprop(StableHlo.held (c : Thread nD τ) (Pipeline.ucRefs τ sig) (V4 m (outs m h0) c) ∗ E (F := F) 2 c) :=
  (RegionSeg.ofHeldIn_post (sub1 (F := F)) c).trans
    (sep_mono (Entails.of_eq (StableHlo.held_congr (c : Thread nD τ) (fun b hb => by
      obtain ⟨r, -, rfl⟩ := Finset.mem_map.mp (Finset.mem_filter.mp hb).1
      exact after1 m h0 c r))) .rfl)

include hR in
set_option backward.isDefEq.respectTransparency.types false in
/-- With the row numbers, lengths and characters in range, @main runs to its end, every unscoped buffer at the last
    valuation's contents, every counter at zero. -/
theorem run_all (g : Dev nD → PrngReg) :
    θ_run defs (onTc (τ := τ) (main (F := F))) ⟨m, fun _ => 0, g⟩ (fun r =>
      (∀ c : Dev nD, ∀ b ∈ Pipeline.ucRefs τ sig, r.2.mem (c, b) = V5 m (outs m h0) c b) ∧ r.2.sem = fun _ => 0) := by
  refine Pipeline.θ_run_regions_kit_dev_sems (pcfgs (F := F)) (adm m h0) (pdats m h0) () (cellOf_inj (adm m h0)) emb₁ defs₀ 𝒱₀ L lv m g main
    (segs m (outs m h0) 𝒱₀ L lv E () (adm m h0) (pdats m h0) (R0 m h0) (R1 m h0 hR))
    (fun c Q => by
      rewrite [main_chain c, Seg.run_eq_chain,
        show (segs m (outs m h0) 𝒱₀ L lv E () (adm m h0) (pdats m h0) (R0 m h0) (R1 m h0 hR) c).map Seg.prog
          = [StableHlo.seq hostOps0, Prog.lift (.customCall (Pipeline.entry 0) ()), StableHlo.seq hostOps1,
            Prog.lift (.customCall (Pipeline.entry 1) ()), StableHlo.seq hostOps2] from rfl]
      exact .rfl)
    (fun c => by simp only [segs, Seg.pipes_host, Seg.pipes_region, Seg.pipes_nil]; decide)
    (fun _ => 0) (fun g h => if_neg h) (fun _ => BI.emp)
    (initOf (Pipeline.cells (Pipeline.pin (pcfgs (F := F)) (adm m h0)) (cellOf_inj (adm m h0)))
      (Pipeline.launchToks (Pipeline.pin (pcfgs (F := F)) (adm m h0)) (cellOf_inj (adm m h0)))) ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m h0) c))
    (hch := fun c => ⟨.rfl, pre0_link m h0 c, post0_link m h0 c, pre1_link m h0 hR c, post1_link m h0 hR c, sep_mono .rfl (by iintro ⟨HO, -⟩; iexact HO)⟩)
    (hinit := ?_) (QY := fun c s => ∀ b ∈ Pipeline.ucRefs τ sig, s.mem (c, b) = V5 m (outs m h0) c b)
    (hfin := fun c s' => ?_) (hQ := fun _ h hz => ⟨h, funext fun g => hz g (.inr (regions_no_unscoped g.2))⟩)
  · iintro Hu
    imodintro
    isplitl [Hu]; · iapply (Entails.of_eq (ownU_emb₁ _)); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (V5 m (outs m h0) c) s') $$ [Hh HSI]
    · isplitl [Hh] <;> iassumption
    icases Hr with ⟨%h, HSI⟩
    imodintro
    isplitr
    · ipureintro
      exact h
    · iexact HSI

end Chain

end Launch

end Cert.Proof.Chain

end
-- ==== Proof.HostReads.lean ====
/- What the host operations leave: the chain's operands from the arguments and the gathered rows, and the result from the
   chain's output. -/
module

public import proofs.«01_k».proof.Proof.Region1
public import proofs.«01_k».proof.Proof.Gen.KernelIdeal.Regions
public import Idealize.ShloMosaic.Lib.StableHlo.RunRead

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic

variable {F : FTy → Type} [FloatOps F] (V : Valuation τ sig (Elt F))

theorem read_lens : StableHlo.after hostOps1 V (Proc.devRef .tc main_arg2) = V (Proc.devRef .tc main_arg2) := by after_reads_simp
theorem read_chars : StableHlo.after hostOps1 V (Proc.devRef .tc main_v3) = shapeCast S131072 (V (Proc.devRef .tc main_arg1)) shapeCasts_S8192x16_S131072 := by after_reads_simp; rfl
theorem read_we : StableHlo.after hostOps1 V (Proc.devRef .tc main_v2) = shapeCast S8192x256 (V (Proc.devRef .tc main_v1)) shapeCasts_S8192x1x256_S8192x256 := by after_reads_simp; rfl
theorem read_cemb : StableHlo.after hostOps1 V (Proc.devRef .tc main_arg4) = V (Proc.devRef .tc main_arg4) := by after_reads_simp
theorem read_wc : StableHlo.after hostOps1 V (Proc.devRef .tc main_v4) = transpose S64x512 [1, 0] (V (Proc.devRef .tc main_arg5)) transposes_S512x64_S64x512_1_0 := by after_reads_simp
theorem read_bc : StableHlo.after hostOps1 V (Proc.devRef .tc main_v6) = broadcastInDim S1x512 ![1] bcast_S512_S1x512_1 (V (Proc.devRef .tc main_arg7)) := by after_reads_simp
theorem read_uc : StableHlo.after hostOps1 V (Proc.devRef .tc main_v5) = transpose S128x512 [1, 0] (V (Proc.devRef .tc main_arg6)) transposes_S512x128_S128x512_1_0 := by after_reads_simp
theorem read_ww : StableHlo.after hostOps1 V (Proc.devRef .tc main_v8) = transpose S256x1024 [1, 0] (extractStridedSlice S1024x256 ![0, 0] (V (Proc.devRef .tc main_arg8)) slices_S1024x384_S1024x256_0_0) transposes_S1024x256_S256x1024_1_0 := by after_reads_simp
theorem read_wh : StableHlo.after hostOps1 V (Proc.devRef .tc main_v10) = transpose S128x1024 [1, 0] (extractStridedSlice S1024x128 ![0, 256] (V (Proc.devRef .tc main_arg8)) slices_S1024x384_S1024x128_0_256) transposes_S1024x128_S128x1024_1_0 := by after_reads_simp
theorem read_uw : StableHlo.after hostOps1 V (Proc.devRef .tc main_v11) = transpose S256x1024 [1, 0] (V (Proc.devRef .tc main_arg9)) transposes_S1024x256_S256x1024_1_0 := by after_reads_simp
theorem read_bw : StableHlo.after hostOps1 V (Proc.devRef .tc main_v12) = broadcastInDim S1x1024 ![1] bcast_S1024_S1x1024_1 (V (Proc.devRef .tc main_arg10)) := by after_reads_simp
theorem read_wo : StableHlo.after hostOps1 V (Proc.devRef .tc main_v16) = Host.scatter scatter_S256x128_S1_S256x17_01_n_1_0 (fun _ b => b)
    (broadcastInDim S256x128 ![] bcast_S_S256x128 (constant S_ .f32 0x00000000#32))
    (broadcastInDim S1 ![] bcast_S_S1 (constantI S_ 32 0#32)) (transpose S256x17 [1, 0] (V (Proc.devRef .tc main_arg11)) transposes_S17x256_S256x17_1_0) := by after_reads_simp
theorem read_bo : StableHlo.after hostOps1 V (Proc.devRef .tc main_v20) = Host.scatter scatter_S1x128_S1_S1x17_01_n_1_0 (fun _ b => b)
    (broadcastInDim S1x128 ![] bcast_S_S1x128 (constant S_ .f32 0x00000000#32))
    (broadcastInDim S1 ![] bcast_S_S1 (constantI S_ 32 0#32)) (broadcastInDim S1x17 ![1] bcast_S17_S1x17_1 (V (Proc.devRef .tc main_arg12))) := by after_reads_simp
theorem read_out : StableHlo.after hostOps2 V (Proc.devRef .tc main_v23)
    = extractStridedSlice S8192x17 ![0, 0] (shapeCast S8192x128 (V (Proc.devRef .tc main_v21)) shapeCasts_S8192x1x128_S8192x128) slices_S8192x128_S8192x17_0_0 := by after_reads_simp; rfl
theorem read_table : StableHlo.after hostOps0 V (Proc.devRef .tc main_v0)
    = shapeCast S100000x1x256 (V (Proc.devRef .tc main_arg3)) shapeCasts_S100000x256_S100000x1x256 := by after_reads_simp; rfl

end Cert.Proof.Chain

end
-- ==== Proof.Ranges.lean ====
/- The precondition read: what the integer arguments' ranges give, and the frame they give. -/
module

public import proofs.«01_k».proof.Proof.Run
public import proofs.«01_k».proof.Proof.HostReads
public import proofs.«01_k».proof.Pre_drawn_ranges
public import Idealize.ShloMosaic.Lib.StableHlo.RunHlo

@[expose] public section

noncomputable section

namespace Cert.Proof.Chain

open Cert.KernelIdeal Cert.KernelIdeal.Gen
open Idealize.ShloMosaic Idealize.ShloMosaic.ValueIdx Idealize.ShloMosaic.TcCoe Idealize.ShloMosaic.Tactic

variable {F : FTy → Type} [FloatOps F]

instance : Cert.Pre_drawn_ranges.Facts where
  bcast_S_S8192 := by decide
  bcast_S_S8192x16 := by decide
  bcast_S8192_S8192x16_0 := by decide

/-- The ranges the integer arguments are drawn from. -/
structure Ranges (ids : IVec S8192 32) (chars : IVec S8192x16 32) (lens : IVec S8192 32) : Prop where
  ids : ∀ i, (ids i).toNat < 100000
  len : ∀ i, 1 ≤ (lens i).toNat ∧ (lens i).toNat ≤ 16
  chr : ∀ j, (chars j).toNat < 128

/-- The precondition says that they are in them. -/
theorem ranges_of_pre (ids : IVec S8192 32) (chars : IVec S8192x16 32) (lens : IVec S8192 32) (a3 : FVec F S100000x256 .f32)
    (a4 : FVec F S128x64 .f32) (a5 : FVec F S512x64 .f32) (a6 : FVec F S512x128 .f32) (a7 : FVec F S512 .f32) (a8 : FVec F S1024x384 .f32)
    (a9 : FVec F S1024x256 .f32) (a10 : FVec F S1024 .f32) (a11 : FVec F S17x256 .f32) (a12 : FVec F S17 .f32)
    (h : Cert.Pre_drawn_ranges.fn ids chars lens a3 a4 a5 a6 a7 a8 a9 a10 a11 a12 = fun _ => 1#1) : Ranges ids chars lens := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ (i : Fin 8192) (t : Fin 16), ((ids (ix1 i)).toNat < 100000 ∧ 1 ≤ (lens (ix1 i)).toNat ∧ (lens (ix1 i)).toNat ≤ 16)
      ∧ (chars (ix2 i t)).toNat < 128 := by
    intro i t
    have e := congrFun h (ix2 i t)
    have ei : ∀ (x : IVec S8192 1), broadcastInDim (s := S8192) S8192x16 ![0] Cert.Pre_drawn_ranges.Facts.bcast_S8192_S8192x16_0 x (ix2 i t) = x (ix1 i) := by
      intro x
      refine congrArg x (funext fun a => ?_)
      match a with
      | ⟨0, _⟩ => rfl
    have e' : IntOp.andi _ _ = 1#1 := e
    rw [ei] at e'
    simp only [andi, cmpi, broadcastInDim, constantI, IntOp.cmpi, andi_ofBool, ofBool_eq_one, Bool.and_eq_true] at e'
    obtain ⟨⟨⟨⟨h1, h2⟩, h3⟩, h4⟩, h5, h6⟩ := e'
    simp only [BitVec.sle, BitVec.slt, decide_eq_true_eq, BitVec.toInt, BitVec.toNat_ofNat] at h1 h2 h3 h4 h5 h6
    omega
  refine ⟨fun i => ?_, fun i => ?_, fun j => ?_⟩
  · have e : i = ix1 (i 0) := funext fun a => match a with | ⟨0, _⟩ => rfl
    rw [e]; exact (key (i 0) 0).1.1
  · have e : i = ix1 (i 0) := funext fun a => match a with | ⟨0, _⟩ => rfl
    rw [e]; exact (key (i 0) 0).1.2
  · have e : j = ix2 (j 0) (j 1) := funext fun a => match a with | ⟨0, _⟩ => rfl | ⟨1, _⟩ => rfl
    rw [e]; exact (key (j 0) (j 1)).2

/-- The integer arguments' ranges, of a memory's arguments on core `c`. -/
abbrev RangesAt (m : (ℓ : Loc nD τ sig) → Buf (Elt F) ℓ) (c : Dev nD) : Prop :=
  Ranges (m ((c.tc : Thread nD τ).loc main_arg0)) (m ((c.tc : Thread nD τ).loc main_arg1)) (m ((c.tc : Thread nD τ).loc main_arg2))

variable (m : (ℓ : Loc nD τ sig) → Buf (Elt F) ℓ)

/-- The row table is admissible. -/
theorem ok_of_ranges (h : ∀ c, RangesAt m c) : ok0 (tbl m 0) := ok_of_lt _ fun i => (h 0).ids (ix1 i)

/-- The chain's lengths and characters are in range. -/
theorem inRange_of_ranges (h : ∀ c, RangesAt m c) (o : Outs (F := F)) (c : Dev nD) : InRange (opsV (V3 m o c)) where
  len j := by
    have e : V3 m o c (Proc.devRef .tc main_arg2) = m ((c.tc : Thread nD τ).loc main_arg2) :=
      (V3_of m o c main_arg2 (by decide)).trans ((V2_of m o c main_arg2 (by decide)).trans (V1_of m c main_arg2 (by decide)))
    show 1 ≤ ((V3 m o c (Proc.devRef .tc main_arg2) : IVec S8192 32) j).toNat ∧ ((V3 m o c (Proc.devRef .tc main_arg2) : IVec S8192 32) j).toNat ≤ 16
    rw [e]
    exact (h c).len j
  chr j := by
    have e : V2 m o c (Proc.devRef .tc main_arg1) = m ((c.tc : Thread nD τ).loc main_arg1) :=
      (V2_of m o c main_arg1 (by decide)).trans (V1_of m c main_arg1 (by decide))
    show ((V3 m o c (Proc.devRef .tc main_v3) : IVec S131072 32) j).toNat < 128
    rw [show V3 m o c (Proc.devRef .tc main_v3) = _ from read_chars (V2 m o c), e]
    exact (h c).chr _

/-- The frame: with the integer arguments in range @main runs to its end with every argument as launched and every counter
    at zero; the result is the last valuation's. -/
theorem run_ranges (g : Dev nD → PrngReg) (h : ∀ c, RangesAt m c) :
    θ_run defs (onTc (τ := τ) (main (F := F))) ⟨m, fun _ => 0, g⟩ (fun r => (∀ c : Dev nD,
      r.2.mem ((c.tc : Thread nD τ).loc main_v23) = V5 m (outs m (ok_of_ranges m h)) c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_mono (run_all m (ok_of_ranges m h) (inRange_of_ranges m h _) g) fun r hr => by
    refine ⟨fun c => ?_, hr.2⟩
    have key : ∀ b : Ref sig .tc, b.isScoped = false → r.2.mem ((c.tc : Thread nD τ).loc b) = V5 m (outs m (ok_of_ranges m h)) c (Proc.devRef .tc b) :=
      fun b hb => hr.1 c _ (Finset.mem_filter.mpr ⟨StableHlo.devRef_mem_tcRefs b, fun h' => Bool.false_ne_true (hb.symm.trans h')⟩)
    exact ⟨key main_v23 rfl, (key main_arg0 rfl).trans (V5_main_arg0 m _ c), (key main_arg1 rfl).trans (V5_main_arg1 m _ c),
      (key main_arg2 rfl).trans (V5_main_arg2 m _ c), (key main_arg3 rfl).trans (V5_main_arg3 m _ c),
      (key main_arg4 rfl).trans (V5_main_arg4 m _ c), (key main_arg5 rfl).trans (V5_main_arg5 m _ c),
      (key main_arg6 rfl).trans (V5_main_arg6 m _ c), (key main_arg7 rfl).trans (V5_main_arg7 m _ c),
      (key main_arg8 rfl).trans (V5_main_arg8 m _ c), (key main_arg9 rfl).trans (V5_main_arg9 m _ c),
      (key main_arg10 rfl).trans (V5_main_arg10 m _ c), (key main_arg11 rfl).trans (V5_main_arg11 m _ c),
      (key main_arg12 rfl).trans (V5_main_arg12 m _ c)⟩

end Cert.Proof.Chain

end
-- ==== Proof.Frames.lean ====
/- The frames of the kernel, as compiled and over ideal numbers: one run, the two programs being one text. -/
module

public import proofs.«01_k».proof.Defs
public import proofs.«01_k».proof.Proof.Gen.Kernel
public import proofs.«01_k».proof.Proof.Ranges

@[expose] public section

noncomputable section

namespace Cert.Proof.Chain

open Idealize.ShloMosaic Idealize.ShloMosaic.TcCoe

section

open Cert.KernelIdeal

/-- The frame of the kernel's text read at any float operations. -/
def FrameAt (F : FTy → Type) [FloatOps F] : Prop :=
  ∀ (m : (ℓ : Loc nD τ sig) → Buf (Elt F) ℓ) (g : Dev nD → PrngReg),
    (∀ c : Dev nD, (Cert.Pre_drawn_ranges.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12))) = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem frameAt (F : FTy → Type) [FloatOps F] : FrameAt F := fun m g hp =>
  θ_run_mono (run_ranges m g fun c => ranges_of_pre _ _ _ _ _ _ _ _ _ _ _ _ _ (hp c)) fun _ h => ⟨fun c => (h.1 c).2, h.2⟩

end

/-- The ideal kernel's frame. -/
theorem frameI : Cert.quiescent_KernelIdeal := frameAt Ideal

/-- The compiled kernel's frame is the same text's at machine words. -/
theorem frameK_eq : Cert.quiescent_Kernel = FrameAt Bits := by chain_rfl

/-- The compiled kernel's frame. -/
theorem frameK : Cert.quiescent_Kernel := frameK_eq.mpr (frameAt Bits)

end Cert.Proof.Chain

end
-- ==== Proof.RefFrame.lean ====
/- The reference's frame: its run keeps every argument, and it declares no semaphore. -/
module

public import proofs.«01_k».proof.Defs
public import proofs.«01_k».proof.Proof.Gen.ReferenceIdeal.Run
public import proofs.«01_k».proof.Proof.Ranges

@[expose] public section

noncomputable section

namespace Cert.Proof.Ref

open Idealize.ShloMosaic Idealize.ShloMosaic.TcCoe

/-- The reference's frame. -/
theorem frameR : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof.Ref

end
-- ==== Proof.Spec.lean ====
/- The tagger's mathematics over the extended reals: a long short-term memory cell, the character cell run over the
   characters of a word, the word cell run over the words, and the logits. Both programs are shown to compute this. -/
module

public import Idealize.ShloMosaic.PureOps.Ideal

@[expose] public section

noncomputable section

namespace Cert.Proof.Spec

open Idealize.ShloMosaic

/-- The cell's new memory: the gates `g` are the input, forget, candidate and output gates, `n` of each. -/
def cellC {n N : ℕ} (hN : 4 * n = N) (g : Fin N → EReal) (c : Fin n → EReal) (i : Fin n) : EReal :=
  Ideal.logistic (g ⟨n + i.val, by omega⟩) * c i
    + Ideal.logistic (g ⟨i.val, by omega⟩) * Ideal.tanh (g ⟨2 * n + i.val, by omega⟩)

/-- The cell's new output. -/
def cellH {n N : ℕ} (hN : 4 * n = N) (g : Fin N → EReal) (c : Fin n → EReal) (i : Fin n) : EReal :=
  Ideal.logistic (g ⟨3 * n + i.val, by omega⟩) * Ideal.tanh (cellC hN g c i)

/-- What the tagger is run on: the input gates of character `t` of word `i`, the recurrent character weights, the words'
    lengths and embeddings, the word weights with their bias, the recurrent word weights, and the output layer. -/
structure Data where
  cg : ℕ → ℕ → Fin 512 → EReal
  u : Fin 512 → Fin 128 → EReal
  len : ℕ → ℕ
  we : ℕ → Fin 256 → EReal
  w : Fin 1024 → Fin 384 → EReal
  bw : Fin 1024 → EReal
  uw : Fin 1024 → Fin 256 → EReal
  wo : Fin 17 → Fin 256 → EReal
  bo : Fin 17 → EReal

/-- The character cell's output and memory. -/
abbrev CState := (Fin 128 → EReal) × (Fin 128 → EReal)

/-- Both cells' outputs and memories. -/
structure State where
  hc : Fin 128 → EReal
  cc : Fin 128 → EReal
  hw : Fin 256 → EReal
  cw : Fin 256 → EReal

variable (D : Data)

/-- The character gates: the input gates plus the recurrent part. -/
def charGates (i t : ℕ) (h : Fin 128 → EReal) (j : Fin 512) : EReal :=
  D.cg i t j + ∑ k : Fin 128, h k * D.u j k

/-- One character. -/
def char (i t : ℕ) (s : CState) : CState :=
  (cellH (n := 128) rfl (charGates D i t s.1) s.2, cellC (n := 128) rfl (charGates D i t s.1) s.2)

/-- The first `t` characters of word `i`, from `s`. -/
def chars (i : ℕ) (s : CState) : ℕ → CState
  | 0 => s
  | t + 1 => char D i t (chars i s t)

/-- The word gates: the embedding's part, the character output's part, the bias and the recurrent part. -/
def wordGates (i : ℕ) (hc : Fin 128 → EReal) (hw : Fin 256 → EReal) (j : Fin 1024) : EReal :=
  ((∑ k : Fin 256, D.we i k * D.w j ⟨k.val, by omega⟩ + ∑ k : Fin 128, hc k * D.w j ⟨256 + k.val, by omega⟩) + D.bw j)
    + ∑ k : Fin 256, hw k * D.uw j k

/-- One word: its characters, then the word cell. -/
def word (i : ℕ) (s : State) : State where
  hc := (chars D i (s.hc, s.cc) (D.len i)).1
  cc := (chars D i (s.hc, s.cc) (D.len i)).2
  hw := cellH (n := 256) rfl (wordGates D i (chars D i (s.hc, s.cc) (D.len i)).1 s.hw) s.cw
  cw := cellC (n := 256) rfl (wordGates D i (chars D i (s.hc, s.cc) (D.len i)).1 s.hw) s.cw

/-- The first `i` words, from zero. -/
def words : ℕ → State
  | 0 => ⟨fun _ => 0, fun _ => 0, fun _ => 0, fun _ => 0⟩
  | i + 1 => word D i (words i)

/-- The logits of the word output `hw`. -/
def logits (hw : Fin 256 → EReal) (o : Fin 17) : EReal := (∑ k : Fin 256, hw k * D.wo o k) + D.bo o

/-- One character position of a word padded to a fixed number of positions: past the word's length the state is kept. -/
def frozen (i t : ℕ) (s : CState) : CState := if t < D.len i then char D i t s else s

/-- The first `t` positions of the padded word. -/
def padded (i : ℕ) (s : CState) : ℕ → CState
  | 0 => s
  | t + 1 => frozen D i t (padded i s t)

/-- Position by position, the padded word has done as many characters as the word has. -/
theorem padded_eq (i : ℕ) (s : CState) : ∀ t, padded D i s t = chars D i s (min t (D.len i))
  | 0 => by rw [Nat.zero_min]; rfl
  | t + 1 => by
    show frozen D i t (padded D i s t) = _
    rw [padded_eq i s t]
    unfold frozen
    split
    · rename_i h
      rw [Nat.min_eq_left h, Nat.min_eq_left (Nat.le_of_lt h)]
      rfl
    · rename_i h
      rw [Nat.min_eq_right (by omega), Nat.min_eq_right (by omega)]

/-- All sixteen positions of a word no longer than that are the word's characters. -/
theorem padded_16 (i : ℕ) (s : CState) (h : D.len i ≤ 16) : padded D i s 16 = chars D i s (D.len i) := by
  rw [padded_eq, Nat.min_eq_right h]

end Cert.Proof.Spec
-- ==== Proof.KernelMath.lean ====
/- The kernel's recursions at the extended reals are the tagger's mathematics: each payload of the chain's body read
   element by element, then by induction over the characters and over the words. -/
module

public import proofs.«01_k».proof.Proof.Model
public import proofs.«01_k».proof.Proof.Spec
public import Idealize.ShloMosaic.Lib.Pointwise

@[expose] public section

noncomputable section

namespace Cert.Proof.KernelMath

open Cert.KernelIdeal Cert.KernelIdeal.Gen Cert.Proof.Chain
open Idealize.ShloMosaic

/-- A vector of the mathematics as a one-row matrix. -/
def row {n : ℕ} (f : Fin n → EReal) : (⟨2, ![1, n]⟩ : Shape).Idx → EReal := fun j => f (j 1)

/-- The kernel's operands are those of the mathematics `D`; `tbl` is the table of character gates. -/
structure Reads (W : Ops Ideal) (tbl : FVec Ideal S128x512 .f32) (D : Spec.Data) : Prop where
  tbl : ∀ i t, i < 8192 → t < 16 → tblRow tbl (charAt W.chars i t) = row (D.cg i t)
  uc : W.uc = fun j => D.u (j 1) (j 0)
  len : ∀ i, i < 8192 → (lenAt W.lens i).toNat = D.len i
  le : ∀ i, i < 8192 → D.len i ≤ 16
  we : ∀ i, i < 8192 → weRow W.we i = row (D.we i)
  ww : W.ww = fun j => D.w (j 1) ⟨(j 0).val, by have := (j 0).isLt; change (j 0).val < 256 at this; omega⟩
  wh : W.wh = fun j => D.w (j 1) ⟨256 + (j 0).val, by have := (j 0).isLt; change (j 0).val < 128 at this; omega⟩
  bw : W.bw = row D.bw
  uw : W.uw = fun j => D.uw (j 1) (j 0)

set_option maxRecDepth 16384 in
/-- The character gates. -/
theorem pay5_eq (h : Fin 128 → EReal) (g : Fin 512 → EReal) (u : Fin 512 → Fin 128 → EReal) :
    k1_pay5 (F := Ideal) (row h) (row g) (fun j => u (j 1) (j 0)) = row fun j => g j + ∑ k : Fin 128, h k * u j k := by
  funext j
  pointwise [k1_pay5, row]

set_option maxRecDepth 16384 in
/-- The character cell's new memory. -/
theorem pay6_eq (h c : Fin 128 → EReal) (g : Fin 512 → EReal) (u : Fin 512 → Fin 128 → EReal) :
    k1_pay6 (F := Ideal) (row h) (row c) (row g) (fun j => u (j 1) (j 0))
      = row (Spec.cellC (n := 128) rfl (fun j => g j + ∑ k : Fin 128, h k * u j k) c) := by
  unfold k1_pay6
  rw [pay5_eq]
  funext j
  pointwise [row, Spec.cellC]

set_option maxRecDepth 16384 in
/-- The character cell's new output. -/
theorem pay7_eq (h c : Fin 128 → EReal) (g : Fin 512 → EReal) (u : Fin 512 → Fin 128 → EReal) :
    k1_pay7 (F := Ideal) (row h) (row c) (row g) (fun j => u (j 1) (j 0))
      = row (Spec.cellH (n := 128) rfl (fun j => g j + ∑ k : Fin 128, h k * u j k) c) := by
  unfold k1_pay7
  rw [pay5_eq, pay6_eq]
  funext j
  pointwise [row, Spec.cellH]

/-- Sums of extended reals in two orders. -/
theorem reorder (a b c d : EReal) : a + b + c + d = a + c + b + d := by rw [add_right_comm a b c]

set_option maxRecDepth 16384 in
/-- The word gates. -/
theorem pay11_eq (hw x : Fin 256 → EReal) (hc : Fin 128 → EReal) (w : Fin 1024 → Fin 384 → EReal) (b : Fin 1024 → EReal)
    (u : Fin 1024 → Fin 256 → EReal) (ww : FVec Ideal S256x1024 .f32) (wh : FVec Ideal S128x1024 .f32)
    (hww : ∀ k j, ww (ix2 k j) = w j ⟨k.val, by omega⟩) (hwh : ∀ k j, wh (ix2 k j) = w j ⟨256 + k.val, by omega⟩) :
    k1_pay11 (F := Ideal) (row hw) (row hc) (row x) ww (row b) wh (fun j => u (j 1) (j 0))
      = row fun j => ((∑ k : Fin 256, x k * w j ⟨k.val, by omega⟩ + ∑ k : Fin 128, hc k * w j ⟨256 + k.val, by omega⟩) + b j)
          + ∑ k : Fin 256, hw k * u j k := by
  funext j
  idx_vars j
  pointwise [k1_pay11, row, hww, hwh]
  rw [reorder]

set_option maxRecDepth 16384 in
/-- The word cell's new memory, of gates `G`. -/
theorem pay12_eq (hw x : FVec Ideal S1x256 .f32) (hc : FVec Ideal S1x128 .f32) (cw : Fin 256 → EReal) (G : Fin 1024 → EReal)
    (ww : FVec Ideal S256x1024 .f32) (b : FVec Ideal S1x1024 .f32) (wh : FVec Ideal S128x1024 .f32) (u : FVec Ideal S256x1024 .f32)
    (hG : k1_pay11 (F := Ideal) hw hc x ww b wh u = row G) :
    k1_pay12 (F := Ideal) hw (row cw) hc x ww b wh u = row (Spec.cellC (n := 256) rfl G cw) := by
  unfold k1_pay12
  rw [hG]
  funext j
  pointwise [row, Spec.cellC]

set_option maxRecDepth 16384 in
/-- The word cell's new output, of gates `G`. -/
theorem pay13_eq (hw x : FVec Ideal S1x256 .f32) (hc : FVec Ideal S1x128 .f32) (cw : Fin 256 → EReal) (G : Fin 1024 → EReal)
    (ww : FVec Ideal S256x1024 .f32) (b : FVec Ideal S1x1024 .f32) (wh : FVec Ideal S128x1024 .f32) (u : FVec Ideal S256x1024 .f32)
    (hG : k1_pay11 (F := Ideal) hw hc x ww b wh u = row G) :
    k1_pay13 (F := Ideal) hw (row cw) hc x ww b wh u = row (Spec.cellH (n := 256) rfl G cw) := by
  unfold k1_pay13
  rw [hG, pay12_eq _ _ _ _ _ _ _ _ _ hG]
  funext j
  pointwise [row, Spec.cellH]

set_option maxRecDepth 16384 in
/-- The row of logits at a label, the output layer padded with labels nobody reads. -/
theorem pay4_eq (hw : Fin 256 → EReal) (wo : FVec Ideal S256x128 .f32) (bo : FVec Ideal S1x128 .f32) (o : Fin 128) :
    k1_pay4 (F := Ideal) (row hw) wo bo (ix3 0 0 o) = (∑ k : Fin 256, hw k * wo (ix2 k o)) + bo (ix2 0 o) := by
  pointwise [k1_pay4, row]

set_option maxRecDepth 16384 in
/-- The character carry starts at zero. -/
theorem pay2_eq : k1_pay2 (F := Ideal) = row (fun _ => 0) := by
  funext j
  pointwise [k1_pay2, row]

set_option maxRecDepth 16384 in
/-- The word carry starts at zero. -/
theorem pay3_eq : k1_pay3 (F := Ideal) = row (fun _ => 0) := by
  funext j
  pointwise [k1_pay3, row]

variable {W : Ops Ideal} {tbl : FVec Ideal S128x512 .f32} {D : Spec.Data}

/-- The characters of a word, one after another. -/
theorem charIter_eq (hR : Reads W tbl D) (i : ℕ) (hi : i < 8192) (s : Spec.CState) : ∀ t, t ≤ 16 →
    charIter tbl W.uc W.chars i (row s.1, row s.2) t = (row (Spec.chars D i s t).1, row (Spec.chars D i s t).2)
  | 0, _ => rfl
  | t + 1, ht => by
    show charStep tbl W.uc (charAt W.chars i t) (charIter tbl W.uc W.chars i (row s.1, row s.2) t) = _
    rw [charIter_eq hR i hi s t (by omega)]
    unfold charStep
    rw [hR.tbl i t hi (by omega), hR.uc]
    exact congrArg₂ Prod.mk (pay7_eq _ _ _ _) (pay6_eq _ _ _ _)

/-- A state of the mathematics as the kernel's carry. -/
def carry (s : Spec.State) : St Ideal := (row s.hc, row s.cc, row s.hw, row s.cw)

/-- One word. -/
theorem wordStep_eq (hR : Reads W tbl D) (i : ℕ) (hi : i < 8192) (s : Spec.State) :
    wordStep W tbl i (carry s) = carry (Spec.word D i s) := by
  unfold wordStep carry
  simp only
  rw [hR.len i hi, charIter_eq hR i hi (s.hc, s.cc) _ (hR.le i hi)]
  simp only
  have hG : k1_pay11 (F := Ideal) (row s.hw) (row (Spec.chars D i (s.hc, s.cc) (D.len i)).1) (weRow W.we i) W.ww W.bw W.wh W.uw
      = row (Spec.wordGates D i (Spec.chars D i (s.hc, s.cc) (D.len i)).1 s.hw) := by
    rw [hR.we i hi, hR.bw, hR.uw]
    refine pay11_eq _ _ _ _ _ _ _ _ (fun k j => ?_) (fun k j => ?_)
    · rw [hR.ww]; rfl
    · rw [hR.wh]; rfl
  rw [pay13_eq _ _ _ _ _ _ _ _ _ hG, pay12_eq _ _ _ _ _ _ _ _ _ hG]
  rfl

/-- The words, one after another. -/
theorem wordIter_eq (hR : Reads W tbl D) : ∀ i, i ≤ 8192 → wordIter W tbl i = carry (Spec.words D i)
  | 0, _ => by
    show (k1_pay2, k1_pay2, k1_pay3, k1_pay3) = _
    rw [pay2_eq, pay3_eq]
    rfl
  | i + 1, hi => by
    show wordStep W tbl i (wordIter W tbl i) = _
    rw [wordIter_eq hR i (by omega), wordStep_eq hR i (by omega)]
    rfl

/-- The logits word `i` leaves: the output layer's first 17 labels are those of the mathematics. -/
theorem outRow_eq (hR : Reads W tbl D) (i : ℕ) (hi : i < 8192) (o : Fin 17)
    (hwo : ∀ k : Fin 256, W.wo (ix2 k ⟨o.val, by omega⟩) = D.wo o k) (hbo : W.bo (ix2 0 ⟨o.val, by omega⟩) = D.bo o) :
    outRow W tbl i (ix3 0 0 ⟨o.val, by omega⟩) = Spec.logits D (Spec.words D (i + 1)).hw o := by
  have h : (wordIter W tbl (i + 1)).2.2.1 = row (Spec.words D (i + 1)).hw := by rw [wordIter_eq hR (i + 1) hi]; rfl
  unfold outRow
  rw [h]
  generalize (Spec.words D (i + 1)).hw = hw
  rw [pay4_eq, hbo]
  unfold Spec.logits
  simp only [hwo]

end Cert.Proof.KernelMath
-- ==== Proof.KernelPad.lean ====
/- The output layer's weights and bias, padded to 128 labels by a scatter into zeros: the first 17 labels are the arguments'. -/
module

public import proofs.«01_k».proof.Proof.Model
public import Idealize.ShloMosaic.Lib.Pointwise
public import Idealize.ShloMosaic.Lib.Routing.OpsSet
public import Idealize.ShloMosaic.Lib.Routing.OpsPair

@[expose] public section

noncomputable section

namespace Cert.Proof.KernelPad

open Cert.KernelIdeal Cert.KernelIdeal.Gen
open Idealize.ShloMosaic

/-- The one index word of the two scatters: zero. -/
abbrev zeroIdx : IVec S1 32 := broadcastInDim S1 ![] bcast_S_S1 (constantI S_ 32 0#32)

/-- An update of the weights' scatter lands at its own coordinates. -/
theorem lands_wo (j : S256x17.Idx) (r : Fin 256) (q : Fin 128) :
    scatter_S256x128_S1_S256x17_01_n_1_0.resultIdx? j zeroIdx = some (ValueIdx.ix2 r q) ↔ (j 0).val = r.val ∧ (j 1).val = q.val := by
  rw [Routing.resultIdx?_ix2]
  have e0 : scatter_S256x128_S1_S256x17_01_n_1_0.start j zeroIdx 0 = 0 := rfl
  have e1 : scatter_S256x128_S1_S256x17_01_n_1_0.start j zeroIdx 1 = 0 := rfl
  have w0 : scatter_S256x128_S1_S256x17_01_n_1_0.window j 0 = (j 0).val := rfl
  have w1 : scatter_S256x128_S1_S256x17_01_n_1_0.window j 1 = (j 1).val := rfl
  rw [e0, e1, w0, w1, zero_add, zero_add, Nat.cast_inj, Nat.cast_inj]

/-- An update of the bias's scatter lands at its own coordinates. -/
theorem lands_bo (j : S1x17.Idx) (r : Fin 1) (q : Fin 128) :
    scatter_S1x128_S1_S1x17_01_n_1_0.resultIdx? j zeroIdx = some (ValueIdx.ix2 r q) ↔ (j 0).val = r.val ∧ (j 1).val = q.val := by
  rw [Routing.resultIdx?_ix2]
  have e0 : scatter_S1x128_S1_S1x17_01_n_1_0.start j zeroIdx 0 = 0 := rfl
  have e1 : scatter_S1x128_S1_S1x17_01_n_1_0.start j zeroIdx 1 = 0 := rfl
  have w0 : scatter_S1x128_S1_S1x17_01_n_1_0.window j 0 = (j 0).val := rfl
  have w1 : scatter_S1x128_S1_S1x17_01_n_1_0.window j 1 = (j 1).val := rfl
  rw [e0, e1, w0, w1, zero_add, zero_add, Nat.cast_inj, Nat.cast_inj]

/-- The padded weights at one of the 17 labels. -/
theorem pad_wo (x0 : FVec Ideal S256x128 .f32) (upd : FVec Ideal S256x17 .f32) (k : Fin 256) (o : Fin 17) :
    Host.scatter scatter_S256x128_S1_S256x17_01_n_1_0 (fun _ b => b) x0 zeroIdx upd
      (ix2 k ⟨o.val, lt_trans o.isLt (by decide)⟩) = upd (ix2 k o) :=
  Routing.scatter_set_hit _ x0 zeroIdx upd (ValueIdx.ix2 k ⟨o.val, lt_trans o.isLt (by decide)⟩) _ (fun j hj => by
    have h := (lands_wo j _ _).1 hj
    refine congrArg upd (funext fun a => ?_)
    match a with
    | ⟨0, _⟩ => exact Fin.ext h.1
    | ⟨1, _⟩ => exact Fin.ext h.2) (ix2 k o) ((lands_wo _ _ _).2 ⟨rfl, rfl⟩)

/-- The padded bias at one of the 17 labels. -/
theorem pad_bo (x0 : FVec Ideal S1x128 .f32) (upd : FVec Ideal S1x17 .f32) (o : Fin 17) :
    Host.scatter scatter_S1x128_S1_S1x17_01_n_1_0 (fun _ b => b) x0 zeroIdx upd
      (ix2 0 ⟨o.val, lt_trans o.isLt (by decide)⟩) = upd (ix2 0 o) :=
  Routing.scatter_set_hit _ x0 zeroIdx upd (ValueIdx.ix2 0 ⟨o.val, lt_trans o.isLt (by decide)⟩) _ (fun j hj => by
    have h := (lands_bo j _ _).1 hj
    refine congrArg upd (funext fun a => ?_)
    match a with
    | ⟨0, _⟩ => exact Fin.ext h.1
    | ⟨1, _⟩ => exact Fin.ext h.2) (ix2 0 o) ((lands_bo _ _ _).2 ⟨rfl, rfl⟩)

/-- The padded weights, of the argument. -/
def padWo (a11 : FVec Ideal S17x256 .f32) : FVec Ideal S256x128 .f32 :=
  Host.scatter scatter_S256x128_S1_S256x17_01_n_1_0 (fun _ b => b)
    (broadcastInDim S256x128 ![] bcast_S_S256x128 (constant S_ .f32 0x00000000#32))
    zeroIdx (transpose S256x17 [1, 0] a11 transposes_S17x256_S256x17_1_0)

/-- The padded bias, of the argument. -/
def padBo (a12 : FVec Ideal S17 .f32) : FVec Ideal S1x128 .f32 :=
  Host.scatter scatter_S1x128_S1_S1x17_01_n_1_0 (fun _ b => b)
    (broadcastInDim S1x128 ![] bcast_S_S1x128 (constant S_ .f32 0x00000000#32))
    zeroIdx (broadcastInDim S1x17 ![1] bcast_S17_S1x17_1 a12)

/-- At one of the 17 labels the padded weights are the argument's, transposed. -/
theorem padWo_at (a11 : FVec Ideal S17x256 .f32) (k : Fin 256) (o : Fin 17) :
    padWo a11 (ix2 k ⟨o.val, lt_trans o.isLt (by decide)⟩) = a11 (ix2 o k) := by
  unfold padWo
  rw [pad_wo]
  pointwise

/-- At one of the 17 labels the padded bias is the argument's. -/
theorem padBo_at (a12 : FVec Ideal S17 .f32) (o : Fin 17) :
    padBo a12 (ix2 0 ⟨o.val, lt_trans o.isLt (by decide)⟩) = a12 (ix1 o) := by
  unfold padBo
  rw [pad_bo]
  pointwise

end Cert.Proof.KernelPad

end
-- ==== Proof.Data.lean ====
/- The tagger's data, read off the thirteen arguments: the same for the kernel and for the reference. -/
module

public import proofs.«01_k».proof.Proof.Spec
public import Idealize.ShloMosaic.Lib.Pointwise

@[expose] public section

noncomputable section

namespace Cert.Proof.Spec

open Idealize.ShloMosaic

/-- A word's number below 8192. -/
abbrev wordNo (i : ℕ) : Fin 8192 := ⟨i % 8192, Nat.mod_lt _ (by decide)⟩

/-- A position's number below 16. -/
abbrev posNo (t : ℕ) : Fin 16 := ⟨t % 16, Nat.mod_lt _ (by decide)⟩

/-- The tagger's data: a character's input gates are its embedding's row times the input weights' transpose, plus the bias;
    a word's embedding is the table's row at the word's id; the weights and biases are the arguments. -/
def dataOf (a0 : IVec ⟨1, ![8192]⟩ 32) (a1 : IVec ⟨2, ![8192, 16]⟩ 32) (a2 : IVec ⟨1, ![8192]⟩ 32)
    (a3 : FVec Ideal ⟨2, ![100000, 256]⟩ .f32) (a4 : FVec Ideal ⟨2, ![128, 64]⟩ .f32) (a5 : FVec Ideal ⟨2, ![512, 64]⟩ .f32)
    (a6 : FVec Ideal ⟨2, ![512, 128]⟩ .f32) (a7 : FVec Ideal ⟨1, ![512]⟩ .f32) (a8 : FVec Ideal ⟨2, ![1024, 384]⟩ .f32)
    (a9 : FVec Ideal ⟨2, ![1024, 256]⟩ .f32) (a10 : FVec Ideal ⟨1, ![1024]⟩ .f32) (a11 : FVec Ideal ⟨2, ![17, 256]⟩ .f32)
    (a12 : FVec Ideal ⟨1, ![17]⟩ .f32) : Data where
  cg i t j := (∑ k : Fin 64, a4 (ix2 ⟨(a1 (ix2 (wordNo i) (posNo t))).toNat % 128, Nat.mod_lt _ (by decide)⟩ k) * a5 (ix2 j k)) + a7 (ix1 j)
  u j k := a6 (ix2 j k)
  len i := (a2 (ix1 (wordNo i))).toNat
  we i k := a3 (ix2 ⟨(a0 (ix1 (wordNo i))).toNat % 100000, Nat.mod_lt _ (by decide)⟩ k)
  w j k := a8 (ix2 j k)
  bw j := a10 (ix1 j)
  uw j k := a9 (ix2 j k)
  wo o k := a11 (ix2 o k)
  bo o := a12 (ix1 o)

end Cert.Proof.Spec

end
-- ==== Proof.KernelReads.lean ====
/- The kernel's operands, as the host operations make them of the arguments, are those of the tagger's mathematics. -/
module

public import proofs.«01_k».proof.Proof.KernelMath
public import proofs.«01_k».proof.Proof.KernelPad
public import proofs.«01_k».proof.Proof.Data

@[expose] public section

noncomputable section

namespace Cert.Proof.KernelReads

open Cert.KernelIdeal Cert.KernelIdeal.Gen Cert.Proof.Chain Cert.Proof.KernelMath
open Idealize.ShloMosaic

variable (a0 : IVec S8192 32) (a1 : IVec S8192x16 32) (a2 : IVec S8192 32) (a3 : FVec Ideal S100000x256 .f32)
  (a4 : FVec Ideal S128x64 .f32) (a5 : FVec Ideal S512x64 .f32) (a6 : FVec Ideal S512x128 .f32) (a7 : FVec Ideal S512 .f32)
  (a8 : FVec Ideal S1024x384 .f32) (a9 : FVec Ideal S1024x256 .f32) (a10 : FVec Ideal S1024 .f32) (a11 : FVec Ideal S17x256 .f32)
  (a12 : FVec Ideal S17 .f32) (g : FVec Ideal S8192x1x256 .f32)

/-- The operands as the host operations make them: `g` the gathered rows of the word table. -/
def argOps : Ops Ideal where
  lens := a2
  chars := shapeCast S131072 a1 shapeCasts_S8192x16_S131072
  we := shapeCast S8192x256 g shapeCasts_S8192x1x256_S8192x256
  cemb := a4
  wc := transpose S64x512 [1, 0] a5 transposes_S512x64_S64x512_1_0
  bc := broadcastInDim S1x512 ![1] bcast_S512_S1x512_1 a7
  uc := transpose S128x512 [1, 0] a6 transposes_S512x128_S128x512_1_0
  ww := transpose S256x1024 [1, 0] (extractStridedSlice S1024x256 ![0, 0] a8 slices_S1024x384_S1024x256_0_0) transposes_S1024x256_S256x1024_1_0
  wh := transpose S128x1024 [1, 0] (extractStridedSlice S1024x128 ![0, 256] a8 slices_S1024x384_S1024x128_0_256) transposes_S1024x128_S128x1024_1_0
  uw := transpose S256x1024 [1, 0] a9 transposes_S1024x256_S256x1024_1_0
  bw := broadcastInDim S1x1024 ![1] bcast_S1024_S1x1024_1 a10
  wo := KernelPad.padWo a11
  bo := KernelPad.padBo a12

/-- Its output weights are the padded ones. -/
theorem argOps_wo : (argOps a1 a2 a4 a5 a6 a7 a8 a9 a10 a11 a12 g).wo = KernelPad.padWo a11 := by dsimp only [argOps]
/-- Its output bias is the padded one. -/
theorem argOps_bo : (argOps a1 a2 a4 a5 a6 a7 a8 a9 a10 a11 a12 g).bo = KernelPad.padBo a12 := by dsimp only [argOps]

/-- The flat list of characters at `16 i + t` is character `t` of word `i`. -/
theorem charAt_eq (i t : ℕ) (hi : i < 8192) (ht : t < 16) :
    charAt (shapeCast S131072 a1 shapeCasts_S8192x16_S131072) i t = a1 (ix2 (Spec.wordNo i) (Spec.posNo t)) := by
  unfold charAt
  show shapeCast S131072 a1 shapeCasts_S8192x16_S131072 (ix1 _) = _
  pointwise
  refine congrArg a1 (congrArg₂ ix2 (Fin.ext ?_) (Fin.ext ?_))
  · show (i * 16 + t) % 131072 / 16 = i % 8192
    omega
  · show (i * 16 + t) % 131072 % 16 = t % 16
    omega

set_option maxRecDepth 16384 in
/-- The table of character gates at row `c`. -/
theorem tbl_at (c : Fin 128) (j : Fin 512) :
    k1_pay1 (F := Ideal) a4 (transpose S64x512 [1, 0] a5 transposes_S512x64_S64x512_1_0) (broadcastInDim S1x512 ![1] bcast_S512_S1x512_1 a7) (ix2 c j)
      = (∑ k : Fin 64, a4 (ix2 c k) * a5 (ix2 j k)) + a7 (ix1 j) := by
  pointwise [k1_pay1]

set_option maxRecDepth 16384 in
/-- The operands are those of the mathematics. -/
theorem reads
    (hg : ∀ (i : Fin 8192) (k : Fin 256), g (ix3 i 0 k) = a3 (ix2 ⟨(a0 (ix1 i)).toNat % 100000, Nat.mod_lt _ (by decide)⟩ k))
    (hlen : ∀ j, (a2 j).toNat ≤ 16) :
    Reads (argOps a1 a2 a4 a5 a6 a7 a8 a9 a10 a11 a12 g)
    (k1_pay1 a4 (transpose S64x512 [1, 0] a5 transposes_S512x64_S64x512_1_0) (broadcastInDim S1x512 ![1] bcast_S512_S1x512_1 a7))
    (Spec.dataOf a0 a1 a2 a3 a4 a5 a6 a7 a8 a9 a10 a11 a12) where
  tbl i t hi ht := by
    funext j
    idx_vars j
    show k1_pay1 (F := Ideal) a4 _ _ (ix2 ⟨(charAt (shapeCast S131072 a1 shapeCasts_S8192x16_S131072) i t).toNat % 128, _⟩ j1) = (Spec.dataOf a0 a1 a2 a3 a4 a5 a6 a7 a8 a9 a10 a11 a12).cg i t j1
    rw [tbl_at]
    simp only [charAt_eq a1 i t hi ht, Spec.dataOf]
  uc := by
    funext j
    idx_vars j
    pointwise [argOps, Spec.dataOf]
  len i hi := rfl
  le i hi := hlen _
  we i hi := by
    funext j
    idx_vars j
    show shapeCast S8192x256 g shapeCasts_S8192x1x256_S8192x256 (ix2 (Spec.wordNo i) j1) = _
    refine Eq.trans ?_ (hg (Spec.wordNo i) j1)
    pointwise
  ww := by
    funext j
    idx_vars j
    pointwise [argOps, Spec.dataOf]
  wh := by
    funext j
    idx_vars j
    pointwise [argOps, Spec.dataOf]
  bw := by
    funext j
    idx_vars j
    pointwise [argOps, Spec.dataOf, row]
  uw := by
    funext j
    idx_vars j
    pointwise [argOps, Spec.dataOf]

/-- The chain's array at a word and a label is the word's row at the label. -/
theorem outArr_at (W : Ops Ideal) (i : Fin 8192) (q : Fin 128) :
    outArr W (ix3 i 0 q) = outRow W (k1_pay1 W.cemb W.wc W.bc) i.val (ix3 0 0 q) := rfl

/-- The chain's result at word `i` and one of the 17 labels is the mathematics' logit. -/
theorem out_eq
    (hg : ∀ (i : Fin 8192) (k : Fin 256), g (ix3 i 0 k) = a3 (ix2 ⟨(a0 (ix1 i)).toNat % 100000, Nat.mod_lt _ (by decide)⟩ k))
    (hlen : ∀ j, (a2 j).toNat ≤ 16)
    (i : Fin 8192) (o : Fin 17) :
    outArr (argOps a1 a2 a4 a5 a6 a7 a8 a9 a10 a11 a12 g) (ix3 i 0 ⟨o.val, lt_trans o.isLt (by decide)⟩)
      = Spec.logits (Spec.dataOf a0 a1 a2 a3 a4 a5 a6 a7 a8 a9 a10 a11 a12)
          (Spec.words (Spec.dataOf a0 a1 a2 a3 a4 a5 a6 a7 a8 a9 a10 a11 a12) (i.val + 1)).hw o := by
  have hR := reads a0 a1 a2 a3 a4 a5 a6 a7 a8 a9 a10 a11 a12 g hg hlen
  have hwo : ∀ k : Fin 256, (argOps a1 a2 a4 a5 a6 a7 a8 a9 a10 a11 a12 g).wo (ix2 k ⟨o.val, lt_trans o.isLt (by decide)⟩) = a11 (ix2 o k) :=
    fun k => by rw [argOps_wo, KernelPad.padWo_at]
  have hbo : (argOps a1 a2 a4 a5 a6 a7 a8 a9 a10 a11 a12 g).bo (ix2 0 ⟨o.val, lt_trans o.isLt (by decide)⟩) = a12 (ix1 o) :=
    by rw [argOps_bo, KernelPad.padBo_at]
  rw [outArr_at]
  exact outRow_eq hR i.val i.isLt o hwo hbo

end Cert.Proof.KernelReads

end
-- ==== Proof.KernelValue.lean ====
/- The kernel's result, at the extended reals: the tagger's logits of its arguments. -/
module

public import proofs.«01_k».proof.Proof.KernelReads
public import proofs.«01_k».proof.Proof.Ranges

@[expose] public section

noncomputable section

namespace Cert.Proof.KernelValue

open Cert.KernelIdeal Cert.KernelIdeal.Gen Cert.Proof.Chain Cert.Proof.KernelReads
open Idealize.ShloMosaic Idealize.ShloMosaic.TcCoe

/-- Operands are equal when each is. -/
theorem ops_ext {W W' : Ops Ideal} (h1 : W.lens = W'.lens) (h2 : W.chars = W'.chars) (h3 : W.we = W'.we) (h4 : W.cemb = W'.cemb)
    (h5 : W.wc = W'.wc) (h6 : W.bc = W'.bc) (h7 : W.uc = W'.uc) (h8 : W.ww = W'.ww) (h9 : W.wh = W'.wh) (h10 : W.uw = W'.uw)
    (h11 : W.bw = W'.bw) (h12 : W.wo = W'.wo) (h13 : W.bo = W'.bo) : W = W' := by
  cases W; cases W'
  cases h1; cases h2; cases h3; cases h4; cases h5; cases h6; cases h7; cases h8; cases h9; cases h10; cases h11; cases h12; cases h13
  rfl

variable (m : (ℓ : Loc nD τ sig) → Buf (Elt Ideal) ℓ) (c : Dev nD)

/-- The tagger's data, of a memory's arguments on core `c`. -/
def dataAt : Spec.Data := Spec.dataOf
  (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))
  (m ((c.tc : Thread nD τ).loc main_arg12))

/-- Before the second host stretch a buffer that the first stretch and the gather leave alone holds what was launched. -/
theorem V2_arg (o : Outs (F := Ideal)) (r : Ref sig .tc) (h1 : r ∉ ([main_v1] : List (Ref sig .tc))) (h0 : r ∉ hostOps0_W) :
    V2 m o c (Proc.devRef .tc r) = m ((c.tc : Thread nD τ).loc r) :=
  (V2_of m o c r h1).trans (V1_of m c r h0)

/-- The chain's operands are those the host operations make of the arguments and the gathered rows. -/
theorem ops_eq (o : Outs (F := Ideal)) : opsV (V3 m o c) = argOps
    (m ((c.tc : Thread nD τ).loc main_arg1)) (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (V2 m o c (Proc.devRef .tc main_v1)) := by
  apply ops_ext
  · refine (read_lens (V2 m o c)).trans ?_
    rw [V2_arg m c o main_arg2 (by decide) (by decide)]
    dsimp only [argOps]
  · refine (read_chars (V2 m o c)).trans ?_
    rw [V2_arg m c o main_arg1 (by decide) (by decide)]
    dsimp only [argOps]
  · exact read_we (V2 m o c)
  · refine (read_cemb (V2 m o c)).trans ?_
    rw [V2_arg m c o main_arg4 (by decide) (by decide)]
    dsimp only [argOps]
  · refine (read_wc (V2 m o c)).trans ?_
    rw [V2_arg m c o main_arg5 (by decide) (by decide)]
    dsimp only [argOps]
  · refine (read_bc (V2 m o c)).trans ?_
    rw [V2_arg m c o main_arg7 (by decide) (by decide)]
    dsimp only [argOps]
  · refine (read_uc (V2 m o c)).trans ?_
    rw [V2_arg m c o main_arg6 (by decide) (by decide)]
    dsimp only [argOps]
  · refine (read_ww (V2 m o c)).trans ?_
    rw [V2_arg m c o main_arg8 (by decide) (by decide)]
    dsimp only [argOps]
  · refine (read_wh (V2 m o c)).trans ?_
    rw [V2_arg m c o main_arg8 (by decide) (by decide)]
    dsimp only [argOps]
  · refine (read_uw (V2 m o c)).trans ?_
    rw [V2_arg m c o main_arg9 (by decide) (by decide)]
    dsimp only [argOps]
  · refine (read_bw (V2 m o c)).trans ?_
    rw [V2_arg m c o main_arg10 (by decide) (by decide)]
    dsimp only [argOps]
  · rw [argOps_wo]
    dsimp only [opsV]
    rw [show V3 m o c (Proc.devRef .tc main_v16) = _ from read_wo (V2 m o c)]
    rw [V2_arg m c o main_arg11 (by decide) (by decide)]
    unfold KernelPad.padWo
    rfl
  · rw [argOps_bo]
    dsimp only [opsV]
    rw [show V3 m o c (Proc.devRef .tc main_v20) = _ from read_bo (V2 m o c)]
    rw [V2_arg m c o main_arg12 (by decide) (by decide)]
    unfold KernelPad.padBo
    rfl

/-- The word table, a unit axis inserted, at a row and a column. -/
theorem table_at (x : FVec Ideal S100000x256 .f32) (r : Fin 100000) (k : Fin 256) :
    shapeCast S100000x1x256 x shapeCasts_S100000x256_S100000x1x256 (ix3 r 0 k) = x (ix2 r k) := by
  pointwise

variable (h : ∀ c, RangesAt m c)

/-- The gathered rows are the word table's, at the words' ids. -/
theorem gathered (i : Fin 8192) (k : Fin 256) :
    (V2 m (outsA m (ok_of_ranges m h)) c (Proc.devRef .tc main_v1) : FVec Ideal S8192x1x256 .f32) (ix3 i 0 k)
      = (m ((c.tc : Thread nD τ).loc main_arg3) : FVec Ideal S100000x256 .f32)
          (ix2 ⟨((m ((c.tc : Thread nD τ).loc main_arg0) : IVec S8192 32) (ix1 i)).toNat % 100000, Nat.mod_lt _ (by decide)⟩ k) := by
  obtain rfl : c = 0 := Subsingleton.elim _ _
  have e : V2 m (outsA m (ok_of_ranges m h)) 0 (Proc.devRef .tc main_v1)
      = (dat0 (F := Ideal) (adm m (ok_of_ranges m h) 0) (V1 m 0) 0).arrAt 1 (cfg0 (F := Ideal) (adm m (ok_of_ranges m h) 0)).N := by
    show Function.update _ _ _ _ = _
    rw [Function.update_self]
    exact Pipeline.afterRegion_arr (dat0 (F := Ideal) (adm m (ok_of_ranges m h) 0) (V1 m 0) 0) (V1 m 0) (launch0 (F := Ideal)).win.arr_inj 1
  rw [e, final0]
  have e0 : V1 m 0 (Proc.devRef .tc main_v0) = shapeCast S100000x1x256 (m (((0 : Dev nD).tc : Thread nD τ).loc main_arg3)) shapeCasts_S100000x256_S100000x1x256 :=
    read_table (V0 m 0)
  show V1 m 0 (Proc.devRef .tc main_v0) _ = _
  rw [e0]
  have hi := (h 0).ids (ix1 i)
  have hr : rowOf (adm m (ok_of_ranges m h) 0).1 i = ((m (((0 : Dev nD).tc : Thread nD τ).loc main_arg0) : IVec S8192 32) (ix1 i)).toNat % 100000 :=
    (Nat.mod_eq_of_lt hi).symm
  refine (table_at _ ⟨rowOf (adm m (ok_of_ranges m h) 0).1 i, rowOf_lt _ i⟩ k).trans ?_
  exact congrArg (fun r => (m (((0 : Dev nD).tc : Thread nD τ).loc main_arg3) : FVec Ideal S100000x256 .f32) (ix2 r k)) (Fin.ext hr)

/-- The result slot: the chain's first 17 labels. -/
theorem result_at (x : FVec Ideal S8192x1x128 .f32) (i : Fin 8192) (o : Fin 17) :
    extractStridedSlice S8192x17 ![0, 0] (shapeCast S8192x128 x shapeCasts_S8192x1x128_S8192x128) slices_S8192x128_S8192x17_0_0 (ix2 i o)
      = x (ix3 i 0 ⟨o.val, lt_trans o.isLt (by decide)⟩) := by
  pointwise

/-- The chain's array after its region. -/
theorem chain_at : V4 m (outs m (ok_of_ranges m h)) c (Proc.devRef .tc main_v21) = outArr (opsV (V3 m (outsA m (ok_of_ranges m h)) c)) := by
  show Function.update _ _ _ _ = _
  rw [Function.update_self]
  refine Eq.trans ?_ (final1 (V3 m (outsA m (ok_of_ranges m h)) c) c)
  exact Pipeline.afterRegion_arr (dat1 (F := Ideal) (V3 m (outsA m (ok_of_ranges m h)) c) c) (V3 m (outsA m (ok_of_ranges m h)) c) (launch1 (F := Ideal)).win.arr_inj 13

/-- The kernel's result at a word and a label is the mathematics' logit. -/
theorem value_at (i : Fin 8192) (o : Fin 17) :
    (V5 m (outs m (ok_of_ranges m h)) c (Proc.devRef .tc main_v23) : FVec Ideal S8192x17 .f32) (ix2 i o)
      = Spec.logits (dataAt m c) (Spec.words (dataAt m c) (i.val + 1)).hw o := by
  rw [show V5 m (outs m (ok_of_ranges m h)) c (Proc.devRef .tc main_v23) = _ from read_out (V4 m (outs m (ok_of_ranges m h)) c), chain_at m c h, ops_eq]
  refine (result_at _ i o).trans ?_
  exact out_eq _ _ _ _ _ _ _ _ _ _ _ _ _ _ (gathered m c h) (fun j => ((h c).len j).2) i o

end Cert.Proof.KernelValue

end
-- ==== Proof.RefGather.lean ====
/- The reference's two row lookups, read at an element: an index wrapped where negative, then the table's row. -/
module

public import proofs.«01_k».proof.Proof.Gen.ReferenceIdeal.Run
public import Idealize.ShloMosaic.Lib.Pointwise
public import Idealize.ShloMosaic.Lib.DynamicIndex
public import Idealize.ShloMosaic.Lib.Routing.Ops

@[expose] public section

noncomputable section

namespace Cert.Proof.RefGather

open Cert.ReferenceIdeal Cert.ReferenceIdeal.Gen
open Idealize.ShloMosaic

/-- A word below `n ≤ 2³¹`, read signed and clamped to `n - 1`, is its number. -/
theorem clamp_eq (x : BitVec 32) (n : ℕ) (hn : n ≤ 2 ^ 31) (hx : x.toNat < n) : min x.toInt.toNat (n - 1) = x.toNat := by
  have e : x.toInt = (x.toNat : ℤ) := BitVec.toInt_eq_toNat_of_lt (by omega)
  rw [e]
  omega

/-- Such a word is not negative. -/
theorem nonneg_of_lt (x : BitVec 32) (n : ℕ) (hn : n ≤ 2 ^ 31) (hx : x.toNat < n) : 0 ≤ x.toInt := by
  rw [BitVec.toInt_eq_toNat_of_lt (by omega)]
  omega

/-- The character embeddings' lookup at `(i, t, k)`: the table's row at the index word of `(i, t)`, column `k`. -/
theorem gather_chars (tbl : FVec Ideal S128x64 .f32) (idx : IVec S8192x16x1 32) (i : Fin 8192) (t : Fin 16) (k : Fin 64)
    (h : (idx (ix3 i t 0)).toNat < 128) :
    Host.gather gather_S128x64_S8192x16x1_S8192x16x64_2_0_n_n_0_2_164 tbl idx (ix3 i t k)
      = tbl (ix2 ⟨(idx (ix3 i t 0)).toNat, h⟩ k) := by
  unfold Host.gather
  refine congrArg tbl (funext fun a => Fin.ext ?_)
  let d := gather_S128x64_S8192x16x1_S8192x16x64_2_0_n_n_0_2_164
  show d.start (ix3 i t k) idx a + d.batchCoord (ix3 i t k) a + d.offCoord (ix3 i t k) a = _
  rw [GatherDims.batchCoord_eq_zero _ _ _ (by exact List.not_mem_nil)]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix3 i t k) ⟨List.idxOf (0 : Fin 2) d.startIndexMap,
        List.idxOf_lt_length_iff.2 (List.mem_singleton.mpr rfl)⟩ = ix3 i t 0 := by
      funext b; refine Fin.ext ?_
      match b with
      | ⟨0, _⟩ => rfl
      | ⟨1, _⟩ => rfl
      | ⟨2, _⟩ => rfl
    rw [hsi]
    exact clamp_eq _ 128 (by decide) h
  · unfold GatherDims.start
    rw [dif_neg (show (1 : Fin 2) ∉ d.startIndexMap by decide)]
    exact (Nat.zero_add _).trans rfl

/-- The word embeddings' lookup at `(i, k)`: the table's row at the index word of `i`, column `k`. -/
theorem gather_words (tbl : FVec Ideal S100000x256 .f32) (idx : IVec S8192x1 32) (i : Fin 8192) (k : Fin 256)
    (h : (idx (ix2 i 0)).toNat < 100000) :
    Host.gather gather_S100000x256_S8192x1_S8192x256_1_0_n_n_0_1_1256 tbl idx (ix2 i k)
      = tbl (ix2 ⟨(idx (ix2 i 0)).toNat, h⟩ k) :=
  Routing.gather_row _ rfl rfl rfl rfl rfl tbl idx i k ⟨_, h⟩ (by rw [BitVec.ofNat_toNat, BitVec.setWidth_eq]; rfl) (by decide)

/-- The reference's word embeddings: row `i` is the table's row at word `i`'s id. -/
theorem words_eq (tbl : FVec Ideal S100000x256 .f32) (ids : IVec S8192 32) (h : ∀ i, (ids i).toNat < 100000) :
    Host.gather gather_S100000x256_S8192x1_S8192x256_1_0_n_n_0_1_1256 tbl
        (broadcastInDim S8192x1 ![0] bcast_S8192_S8192x1_0
          (select (cmpi .slt ids (broadcastInDim S8192 ![] bcast_S_S8192 (constantI S_ 32 0#32)))
            (addi ids (broadcastInDim S8192 ![] bcast_S_S8192 (constantI S_ 32 100000#32))) ids))
      = fun j => tbl (ix2 ⟨(ids (ix1 (j 0))).toNat % 100000, Nat.mod_lt _ (by decide)⟩ (j 1)) := by
  have hs : select (cmpi .slt ids (broadcastInDim S8192 ![] bcast_S_S8192 (constantI S_ 32 0#32)))
      (addi ids (broadcastInDim S8192 ![] bcast_S_S8192 (constantI S_ 32 100000#32))) ids = ids :=
    funext fun j => select_slt_zero_of_nonneg ids _ _ j (nonneg_of_lt _ 100000 (by decide) (h j))
  rw [hs]
  funext j
  obtain ⟨i, k, rfl⟩ : ∃ (i : Fin 8192) (k : Fin 256), j = ix2 i k := by idx_vars j; exact ⟨j0, j1, rfl⟩
  have e : broadcastInDim S8192x1 ![0] bcast_S8192_S8192x1_0 ids (ix2 i 0) = ids (ix1 i) := by pointwise
  rw [gather_words tbl _ i k (by rw [e]; exact h _)]
  refine congrArg (fun x => tbl (ix2 x k)) (Fin.ext ?_)
  show (broadcastInDim S8192x1 ![0] bcast_S8192_S8192x1_0 ids (ix2 i 0)).toNat = (ids (ix1 i)).toNat % 100000
  rw [e, Nat.mod_eq_of_lt (h _)]

/-- The reference's character input gates: at `(i, t)`, the embedding's row at that character times the input weights'
    transpose, plus the bias. -/
theorem chars_eq (tbl : FVec Ideal S128x64 .f32) (ids : IVec S8192x16 32) (w : FVec Ideal S512x64 .f32) (b : FVec Ideal S512 .f32)
    (h : ∀ j, (ids j).toNat < 128) :
    addf (Host.dotGeneral dot_S8192x16x64_S512x64_S8192x16x512_2_1_01_0_n_n none
        (Host.gather gather_S128x64_S8192x16x1_S8192x16x64_2_0_n_n_0_2_164 tbl
          (broadcastInDim S8192x16x1 ![0, 1] bcast_S8192x16_S8192x16x1_0_1
            (select (cmpi .slt ids (broadcastInDim S8192x16 ![] bcast_S_S8192x16 (constantI S_ 32 0#32)))
              (addi ids (broadcastInDim S8192x16 ![] bcast_S_S8192x16 (constantI S_ 32 128#32))) ids))) w)
        (broadcastInDim S8192x16x512 ![0, 1, 2] bcast_S1x1x512_S8192x16x512_0_1_2
          (broadcastInDim S1x1x512 ![2] bcast_S512_S1x1x512_2 b))
      = fun j => (∑ k : Fin 64, tbl (ix2 ⟨(ids (ix2 (j 0) (j 1))).toNat % 128, Nat.mod_lt _ (by decide)⟩ k) * w (ix2 (j 2) k)) + b (ix1 (j 2)) := by
  have hs : select (cmpi .slt ids (broadcastInDim S8192x16 ![] bcast_S_S8192x16 (constantI S_ 32 0#32)))
      (addi ids (broadcastInDim S8192x16 ![] bcast_S_S8192x16 (constantI S_ 32 128#32))) ids = ids :=
    funext fun j => select_slt_zero_of_nonneg ids _ _ j (nonneg_of_lt _ 128 (by decide) (h j))
  rw [hs]
  have hg : ∀ (i : Fin 8192) (t : Fin 16) (k : Fin 64), Host.gather gather_S128x64_S8192x16x1_S8192x16x64_2_0_n_n_0_2_164 tbl
      (broadcastInDim S8192x16x1 ![0, 1] bcast_S8192x16_S8192x16x1_0_1 ids) (ix3 i t k)
      = tbl (ix2 ⟨(ids (ix2 i t)).toNat % 128, Nat.mod_lt _ (by decide)⟩ k) := by
    intro i t k
    have e : broadcastInDim S8192x16x1 ![0, 1] bcast_S8192x16_S8192x16x1_0_1 ids (ix3 i t 0) = ids (ix2 i t) := by pointwise
    rw [gather_chars tbl _ i t k (by rw [e]; exact h _)]
    refine congrArg (fun x => tbl (ix2 x k)) (Fin.ext ?_)
    show (broadcastInDim S8192x16x1 ![0, 1] bcast_S8192x16_S8192x16x1_0_1 ids (ix3 i t 0)).toNat = (ids (ix2 i t)).toNat % 128
    rw [e, Nat.mod_eq_of_lt (h _)]
  revert hg
  generalize Host.gather gather_S128x64_S8192x16x1_S8192x16x64_2_0_n_n_0_2_164 tbl
    (broadcastInDim S8192x16x1 ![0, 1] bcast_S8192x16_S8192x16x1_0_1 ids) = G
  intro hg
  funext j
  obtain ⟨i, t, k, rfl⟩ : ∃ (i : Fin 8192) (t : Fin 16) (k : Fin 512), j = ix3 i t k := by idx_vars j; exact ⟨j0, j1, j2, rfl⟩
  pointwise
  simp only [hg]

end Cert.Proof.RefGather

end
-- ==== Proof.RefMath.lean ====
/- One trip of the reference's loop at the extended reals, read element by element: a padded position of the character
   cell, the word cell and the row of logits, each as the tagger's mathematics states it. -/
module

public import proofs.«01_k».proof.Proof.Gen.ReferenceIdeal
public import proofs.«01_k».proof.Proof.Spec
public import Idealize.ShloMosaic.Lib.Pointwise
public import Idealize.ShloMosaic.Lib.WordCmp

@[expose] public section

noncomputable section

namespace Cert.Proof.RefMath

open Cert.ReferenceIdeal Cert.ReferenceIdeal.Gen
open Idealize.ShloMosaic

/-- A vector of the mathematics as a one-axis array. -/
def vec {n : ℕ} (f : Fin n → EReal) : (⟨1, ![n]⟩ : Shape).Idx → EReal := fun j => f (j 0)

/-- The character gates at position `t`: row `t` of the word's input gates plus the recurrent part. -/
def gatesAt (t : ℕ) (ht : S16x512.Slices ![t, 0] S1x512) (x : FVec Ideal S16x512 .f32) (U : FVec Ideal S512x128 .f32)
    (h : FVec Ideal S128 .f32) : FVec Ideal S512 .f32 :=
  addf (shapeCast S512 (extractStridedSlice S1x512 ![t, 0] (extractStridedSlice S16x512 ![0, 0] x slices_S16x512_S16x512_0_0) ht) shapeCasts_S1x512_S512)
    (Host.dotGeneral dot_S128_S128x512_S512_0_0_n_1_n_n none h (transpose S128x512 [1, 0] U transposes_S512x128_S128x512_1_0))

/-- One over one plus the exponential of the negative, on 128 elements. -/
def sig128 (x : FVec Ideal S128 .f32) : FVec Ideal S128 .f32 :=
  Host.divf (broadcastInDim S128 ![] bcast_S_S128 (constant S_ .f32 0x3F800000#32))
    (addf (broadcastInDim S128 ![] bcast_S_S128 (constant S_ .f32 0x3F800000#32)) (Host.exp (Host.negf x)))

/-- The same on 256 elements. -/
def sig256 (x : FVec Ideal S256 .f32) : FVec Ideal S256 .f32 :=
  Host.divf (broadcastInDim S256 ![] bcast_S_S256 (constant S_ .f32 0x3F800000#32))
    (addf (broadcastInDim S256 ![] bcast_S_S256 (constant S_ .f32 0x3F800000#32)) (Host.exp (Host.negf x)))

/-- The character cell's new memory. -/
def mem128 (g : FVec Ideal S512 .f32) (c : FVec Ideal S128 .f32) : FVec Ideal S128 .f32 :=
  addf (mulf (sig128 (extractStridedSlice S128 ![128] g slices_S512_S128_128)) c)
    (mulf (sig128 (extractStridedSlice S128 ![0] g slices_S512_S128_0)) (Host.tanh (extractStridedSlice S128 ![256] g slices_S512_S128_256)))

/-- The character cell's new output. -/
def out128 (g : FVec Ideal S512 .f32) (c2 : FVec Ideal S128 .f32) : FVec Ideal S128 .f32 :=
  mulf (sig128 (extractStridedSlice S128 ![384] g slices_S512_S128_384)) (Host.tanh c2)

/-- The word cell's new memory. -/
def mem256 (g : FVec Ideal S1024 .f32) (c : FVec Ideal S256 .f32) : FVec Ideal S256 .f32 :=
  addf (mulf (sig256 (extractStridedSlice S256 ![256] g slices_S1024_S256_256)) c)
    (mulf (sig256 (extractStridedSlice S256 ![0] g slices_S1024_S256_0)) (Host.tanh (extractStridedSlice S256 ![512] g slices_S1024_S256_512)))

/-- The word cell's new output. -/
def out256 (g : FVec Ideal S1024 .f32) (c2 : FVec Ideal S256 .f32) : FVec Ideal S256 .f32 :=
  mulf (sig256 (extractStridedSlice S256 ![768] g slices_S1024_S256_768)) (Host.tanh c2)

/-- Whether position `t` lies within the word's length. -/
def withinAt (t : ℕ) (ht : S16.Slices ![t] S1) (p : IVec S16 32) (len : IVec S_ 32) : IVec S_ 1 :=
  cmpi .slt (shapeCast S_ (extractStridedSlice S1 ![t] (extractStridedSlice S16 ![0] p slices_S16_S16_0) ht) shapeCasts_S1_S_) len

/-- The word gates. -/
def wordGates (x : FVec Ideal S256 .f32) (hc : FVec Ideal S128 .f32) (w : FVec Ideal S1024x384 .f32) (b : FVec Ideal S1024 .f32)
    (hw : FVec Ideal S256 .f32) (u : FVec Ideal S1024x256 .f32) : FVec Ideal S1024 .f32 :=
  addf (addf (Host.dotGeneral dot_S384_S384x1024_S1024_0_0_n_1_n_n none
      (concatenate S384 0 [⟨S256, x⟩, ⟨S128, hc⟩] concatenates_S256_S128_S384_d0)
      (transpose S384x1024 [1, 0] w transposes_S1024x384_S384x1024_1_0)) b)
    (Host.dotGeneral dot_S256_S256x1024_S1024_0_0_n_1_n_n none hw (transpose S256x1024 [1, 0] u transposes_S1024x256_S256x1024_1_0))

/-- The row of logits. -/
def logitsOf (hw : FVec Ideal S256 .f32) (wo : FVec Ideal S17x256 .f32) (bo : FVec Ideal S17 .f32) : FVec Ideal S17 .f32 :=
  addf (Host.dotGeneral dot_S256_S256x17_S17_0_0_n_1_n_n none hw (transpose S256x17 [1, 0] wo transposes_S17x256_S256x17_1_0)) bo

set_option maxRecDepth 16384 in
/-- The character gates at a position, element by element. -/
theorem gatesAt_eq (t : ℕ) (ht : S16x512.Slices ![t, 0] S1x512) (lt : t < 16) (x : FVec Ideal S16x512 .f32) (u : Fin 512 → Fin 128 → EReal)
    (h : Fin 128 → EReal) :
    gatesAt t ht x (fun j => u (j 0) (j 1)) (vec h) = vec fun j => x (ix2 ⟨t, lt⟩ j) + ∑ k : Fin 128, h k * u j k := by
  funext j
  idx_vars j
  pointwise [gatesAt, vec]

set_option maxRecDepth 16384 in
/-- The character cell's new memory. -/
theorem mem128_eq (g : Fin 512 → EReal) (c : Fin 128 → EReal) : mem128 (vec g) (vec c) = vec (Spec.cellC (n := 128) rfl g c) := by
  funext j
  pointwise [mem128, sig128, vec, Spec.cellC, Ideal.logistic]

set_option maxRecDepth 16384 in
/-- The character cell's new output. -/
theorem out128_eq (g : Fin 512 → EReal) (c : Fin 128 → EReal) :
    out128 (vec g) (vec (Spec.cellC (n := 128) rfl g c)) = vec (Spec.cellH (n := 128) rfl g c) := by
  funext j
  pointwise [out128, sig128, vec, Spec.cellH, Ideal.logistic]

set_option maxRecDepth 16384 in
/-- The word cell's new memory. -/
theorem mem256_eq (g : Fin 1024 → EReal) (c : Fin 256 → EReal) : mem256 (vec g) (vec c) = vec (Spec.cellC (n := 256) rfl g c) := by
  funext j
  pointwise [mem256, sig256, vec, Spec.cellC, Ideal.logistic]

set_option maxRecDepth 16384 in
/-- The word cell's new output. -/
theorem out256_eq (g : Fin 1024 → EReal) (c : Fin 256 → EReal) :
    out256 (vec g) (vec (Spec.cellC (n := 256) rfl g c)) = vec (Spec.cellH (n := 256) rfl g c) := by
  funext j
  pointwise [out256, sig256, vec, Spec.cellH, Ideal.logistic]

set_option maxRecDepth 16384 in
/-- The word gates: the contraction over the joined vector is the sum over its two parts. -/
theorem wordGates_eq (x : Fin 256 → EReal) (hc : Fin 128 → EReal) (w : Fin 1024 → Fin 384 → EReal) (b : Fin 1024 → EReal)
    (hw : Fin 256 → EReal) (u : Fin 1024 → Fin 256 → EReal) :
    wordGates (vec x) (vec hc) (fun j => w (j 0) (j 1)) (vec b) (vec hw) (fun j => u (j 0) (j 1))
      = vec fun j => ((∑ k : Fin 256, x k * w j ⟨k.val, by omega⟩ + ∑ k : Fin 128, hc k * w j ⟨256 + k.val, by omega⟩) + b j)
          + ∑ k : Fin 256, hw k * u j k := by
  funext j
  idx_vars j
  pointwise [wordGates, vec]

set_option maxRecDepth 16384 in
/-- The row of logits. -/
theorem logitsOf_eq (hw : Fin 256 → EReal) (wo : Fin 17 → Fin 256 → EReal) (bo : Fin 17 → EReal) :
    logitsOf (vec hw) (fun j => wo (j 0) (j 1)) (vec bo) = vec fun o => (∑ k : Fin 256, hw k * wo o k) + bo o := by
  funext j
  idx_vars j
  pointwise [logitsOf, vec]

set_option maxRecDepth 16384 in
/-- The comparison of the position with the length. -/
theorem withinAt_eq (t : ℕ) (ht : S16.Slices ![t] S1) (lt : t < 16) (n : ℕ) (len : IVec S_ 32) (hn : ∀ j, (len j).toNat = n) (hle : n ≤ 16) :
    withinAt t ht (iotaInDim S16 32 0) len = fun _ => BitVec.ofBool (decide (t < n)) := by
  funext j
  pointwise [withinAt]
  show BitVec.ofBool ((BitVec.ofNat 32 t).slt (len j)) = _
  have hl : (len j).toInt = n := by
    rw [BitVec.toInt_eq_toNat_cond, hn j]
    split <;> omega
  have hb : (BitVec.ofNat 32 t).toInt = t := by
    rw [BitVec.toInt_eq_toNat_cond, BitVec.toNat_ofNat, Nat.mod_eq_of_lt (by omega)]
    split <;> omega
  rw [BitVec.slt, hl, hb]
  simp only [Nat.cast_lt]

/-- One padded position of a word: the values the reference computes there are the mathematics' step, kept where the
    position lies past the word's length. -/
theorem position (D : Spec.Data) (i t : ℕ) (ht : S16x512.Slices ![t, 0] S1x512) (hs : S16.Slices ![t] S1) (lt : t < 16) (s : Spec.CState)
    {x : FVec Ideal S16x512 .f32} {p : IVec S16 32} {len : IVec S_ 32} {U : FVec Ideal S512x128 .f32}
    (hx : ∀ (a : Fin 16) (j : Fin 512), x (ix2 a j) = D.cg i a j) (hU : U = fun j => D.u (j 0) (j 1)) (hp : p = iotaInDim S16 32 0)
    (hn : ∀ j, (len j).toNat = D.len i) (hle : D.len i ≤ 16)
    {h c h' c' c2 : FVec Ideal S128 .f32} {g : FVec Ideal S512 .f32} {b : IVec S_ 1}
    (hh : h = vec s.1 ∧ c = vec s.2)
    (eg : g = gatesAt t ht x U h) (ec : c2 = mem128 g c) (eb : b = withinAt t hs p len)
    (eh' : h' = select (broadcastInDim S128 ![] bcast_S_S128 b) (out128 g c2) h)
    (ec' : c' = select (broadcastInDim S128 ![] bcast_S_S128 b) c2 c) :
    h' = vec (Spec.frozen D i t s).1 ∧ c' = vec (Spec.frozen D i t s).2 := by
  obtain ⟨rfl, rfl⟩ := hh
  have hg : g = vec (Spec.charGates D i t s.1) := by
    rw [eg, hU, gatesAt_eq t ht lt]
    exact congrArg vec (funext fun j => congrArg (· + _) (hx ⟨t, lt⟩ j))
  rw [hg, mem128_eq] at ec
  rw [hp, withinAt_eq t hs lt _ len hn hle] at eb
  subst ec eb
  rw [hg, out128_eq] at eh'
  subst eh' ec'
  unfold Spec.frozen
  by_cases hlt : t < D.len i
  · rw [if_pos hlt, decide_eq_true hlt]
    exact ⟨rfl, rfl⟩
  · rw [if_neg hlt, decide_eq_false hlt]
    exact ⟨rfl, rfl⟩

/-- One row of sixteen can be cut out. -/
theorem slices_row (t : Fin 16) : S16x512.Slices ![t.val, 0] S1x512 := ⟨rfl, fun a => by
  have := t.isLt
  match a with
  | ⟨0, _⟩ => show t.val + 1 ≤ 16; omega
  | ⟨1, _⟩ => show 0 + 512 ≤ 512; omega⟩

/-- One of sixteen elements can be cut out. -/
theorem slices_elt (t : Fin 16) : S16.Slices ![t.val] S1 := ⟨rfl, fun a => by
  have := t.isLt
  match a with
  | ⟨0, _⟩ => show t.val + 1 ≤ 16; omega⟩

/-- All sixteen padded positions of a word: gates `G`, new memories `M`, tests `B`, and the outputs `H` and memories `C`
    before each position and after the last. -/
theorem sixteen (D : Spec.Data) (i : ℕ) (s : Spec.CState)
    {x : FVec Ideal S16x512 .f32} {p : IVec S16 32} {len : IVec S_ 32} {U : FVec Ideal S512x128 .f32}
    (hx : ∀ (a : Fin 16) (j : Fin 512), x (ix2 a j) = D.cg i a j) (hU : U = fun j => D.u (j 0) (j 1)) (hp : p = iotaInDim S16 32 0)
    (hn : ∀ j, (len j).toNat = D.len i) (hle : D.len i ≤ 16)
    (G : Fin 16 → FVec Ideal S512 .f32) (M : Fin 16 → FVec Ideal S128 .f32) (B : Fin 16 → IVec S_ 1) (H C : Fin 17 → FVec Ideal S128 .f32)
    (hH : H 0 = vec s.1) (hC : C 0 = vec s.2)
    (eG : ∀ t : Fin 16, G t = gatesAt t.val (slices_row t) x U (H t.castSucc))
    (eM : ∀ t : Fin 16, M t = mem128 (G t) (C t.castSucc))
    (eB : ∀ t : Fin 16, B t = withinAt t.val (slices_elt t) p len)
    (eH : ∀ t : Fin 16, H t.succ = select (broadcastInDim S128 ![] bcast_S_S128 (B t)) (out128 (G t) (M t)) (H t.castSucc))
    (eC : ∀ t : Fin 16, C t.succ = select (broadcastInDim S128 ![] bcast_S_S128 (B t)) (M t) (C t.castSucc)) :
    H (Fin.last 16) = vec (Spec.chars D i s (D.len i)).1 ∧ C (Fin.last 16) = vec (Spec.chars D i s (D.len i)).2 := by
  have all : ∀ (t : ℕ) (ht : t < 17), H ⟨t, ht⟩ = vec (Spec.padded D i s t).1 ∧ C ⟨t, ht⟩ = vec (Spec.padded D i s t).2 := by
    intro t
    induction t with
    | zero => exact fun _ => ⟨hH, hC⟩
    | succ t ih =>
      intro ht
      exact position D i t (slices_row ⟨t, by omega⟩) (slices_elt ⟨t, by omega⟩) (by omega) (Spec.padded D i s t) hx hU hp hn hle
        (ih (by omega)) (eG ⟨t, by omega⟩) (eM ⟨t, by omega⟩) (eB ⟨t, by omega⟩) (eH ⟨t, by omega⟩) (eC ⟨t, by omega⟩)
  have h := all 16 (by decide)
  rw [Spec.padded_16 D i s hle] at h
  exact h

/-- A row of the word embeddings taken at a number. -/
theorem row_we (X : FVec Ideal S8192x256 .f32) (start : Fin 2 → Int) (i : ℕ) (hi : i < 8192) (h0 : start 0 = (i : Int)) (h1 : start 1 = 0) :
    shapeCast S256 (Host.dynamicSlice S1x256 X start sliceFits_S8192x256_S1x256) shapeCasts_S1x256_S256 = vec fun k => X (ix2 ⟨i, hi⟩ k) := by
  have hoff : S8192x256.Slices ![i, 0] S1x256 := ⟨rfl, fun a => by
    match a with
    | ⟨0, _⟩ => show i + 1 ≤ 8192; omega
    | ⟨1, _⟩ => show 0 + 256 ≤ 256; omega⟩
  rw [WordCmp.dynamicSlice_eq_extract S1x256 X start _ ![i, 0] hoff fun a => by
    match a with
    | ⟨0, _⟩ => exact h0
    | ⟨1, _⟩ => exact h1]
  funext j
  idx_vars j
  pointwise [vec]

/-- The input gates of the word at a number. -/
theorem row_cg (X : FVec Ideal S8192x16x512 .f32) (start : Fin 3 → Int) (i : ℕ) (hi : i < 8192) (h0 : start 0 = (i : Int)) (h1 : start 1 = 0)
    (h2 : start 2 = 0) (a : Fin 16) (j : Fin 512) :
    shapeCast S16x512 (Host.dynamicSlice S1x16x512 X start sliceFits_S8192x16x512_S1x16x512) shapeCasts_S1x16x512_S16x512 (ix2 a j)
      = X (ix3 ⟨i, hi⟩ a j) := by
  have hoff : S8192x16x512.Slices ![i, 0, 0] S1x16x512 := ⟨rfl, fun a => by
    match a with
    | ⟨0, _⟩ => show i + 1 ≤ 8192; omega
    | ⟨1, _⟩ => show 0 + 16 ≤ 16; omega
    | ⟨2, _⟩ => show 0 + 512 ≤ 512; omega⟩
  rw [WordCmp.dynamicSlice_eq_extract S1x16x512 X start _ ![i, 0, 0] hoff fun a => by
    match a with
    | ⟨0, _⟩ => exact h0
    | ⟨1, _⟩ => exact h1
    | ⟨2, _⟩ => exact h2]
  pointwise

/-- The length of the word at a number. -/
theorem row_len (X : IVec S8192 32) (start : Fin 1 → Int) (i : ℕ) (hi : i < 8192) (h0 : start 0 = (i : Int)) (j : S_.Idx) :
    shapeCast S_ (Host.dynamicSlice S1 X start sliceFits_S8192_S1) shapeCasts_S1_S_ j = X (ix1 ⟨i, hi⟩) := by
  have hoff : S8192.Slices ![i] S1 := ⟨rfl, fun a => by
    match a with
    | ⟨0, _⟩ => show i + 1 ≤ 8192; omega⟩
  rw [WordCmp.dynamicSlice_eq_extract S1 X start _ ![i] hoff fun a => by
    match a with
    | ⟨0, _⟩ => exact h0]
  pointwise

/-- The logits with the row at a number replaced. -/
theorem put_row (X : FVec Ideal S8192x17 .f32) (r : Fin 17 → EReal) (start : Fin 2 → Int) (i : ℕ) (hi : i < 8192) (h0 : start 0 = (i : Int))
    (h1 : start 1 = 0) (a : Fin 8192) (o : Fin 17) :
    Host.dynamicUpdateSlice X (broadcastInDim S1x17 ![1] bcast_S17_S1x17_1 (vec r)) start updateFits_S8192x17_S1x17 (ix2 a o)
      = if a.val = i then r o else X (ix2 a o) := by
  have hoff : S8192x17.Slices ![i, 0] S1x17 := ⟨rfl, fun a => by
    match a with
    | ⟨0, _⟩ => show i + 1 ≤ 8192; omega
    | ⟨1, _⟩ => show 0 + 17 ≤ 17; omega⟩
  rw [WordCmp.dynamicUpdateSlice_eq_update X _ start _ ![i, 0] hoff fun a => by
    match a with
    | ⟨0, _⟩ => exact h0
    | ⟨1, _⟩ => exact h1]
  pointwise [vec]
  by_cases h : a.val = i
  · rw [dif_pos (by omega), if_pos h]
  · rw [dif_neg (by omega), if_neg h]

end Cert.Proof.RefMath
-- ==== Proof.RefStep.lean ====
/- The reference's loop: one trip is one word of the tagger's mathematics, so after all trips the logits are those of the
   mathematics, row by row. -/
module

public import proofs.«01_k».proof.Proof.Gen.ReferenceIdeal.Run
public import proofs.«01_k».proof.Proof.RefMath

@[expose] public section

noncomputable section

namespace Cert.Proof.RefStep

open Cert.ReferenceIdeal Cert.ReferenceIdeal.Gen Cert.ReferenceIdeal.Value
open Cert.Proof.RefMath
open Idealize.ShloMosaic Idealize.ShloMosaic.TcCoe

/-- The carried buffers' contents. -/
abbrev Val := Valuation τ sig (Elt Ideal)

/-- Before trip `i` the carried buffers hold the mathematics' state after `i` words, the loop's constants hold its data,
    and the rows written so far are its logits. -/
structure Holds (D : Spec.Data) (i : ℕ) (V : Val) : Prop where
  cg : (V (Proc.devRef .tc main_v24_0) : FVec Ideal S8192x16x512 .f32) = fun j => D.cg (j 0).val (j 1).val (j 2)
  len : ∀ a : Fin 8192, ((V (Proc.devRef .tc main_v24_1) : IVec S8192 32) (ix1 a)).toNat = D.len a.val
  we : (V (Proc.devRef .tc main_v24_2) : FVec Ideal S8192x256 .f32) = fun j => D.we (j 0).val (j 1)
  u : (V (Proc.devRef .tc main_v24_3) : FVec Ideal S512x128 .f32) = fun j => D.u (j 0) (j 1)
  pos : (V (Proc.devRef .tc main_v24_4) : IVec S16 32) = iotaInDim S16 32 0
  w : (V (Proc.devRef .tc main_v24_5) : FVec Ideal S1024x384 .f32) = fun j => D.w (j 0) (j 1)
  bw : (V (Proc.devRef .tc main_v24_6) : FVec Ideal S1024 .f32) = vec D.bw
  uw : (V (Proc.devRef .tc main_v24_7) : FVec Ideal S1024x256 .f32) = fun j => D.uw (j 0) (j 1)
  wo : (V (Proc.devRef .tc main_v24_8) : FVec Ideal S17x256 .f32) = fun j => D.wo (j 0) (j 1)
  bo : (V (Proc.devRef .tc main_v24_9) : FVec Ideal S17 .f32) = vec D.bo
  ctr : (V (Proc.devRef .tc main_v24_10) : IVec S_ 32) = fun _ => BitVec.ofNat 32 i
  hc : (V (Proc.devRef .tc main_v24_11) : FVec Ideal S128 .f32) = vec (Spec.words D i).hc
  cc : (V (Proc.devRef .tc main_v24_12) : FVec Ideal S128 .f32) = vec (Spec.words D i).cc
  hw : (V (Proc.devRef .tc main_v24_13) : FVec Ideal S256 .f32) = vec (Spec.words D i).hw
  cw : (V (Proc.devRef .tc main_v24_14) : FVec Ideal S256 .f32) = vec (Spec.words D i).cw
  out : ∀ (a : Fin 8192) (o : Fin 17), a.val < i →
    (V (Proc.devRef .tc main_v24_15) : FVec Ideal S8192x17 .f32) (ix2 a o) = Spec.logits D (Spec.words D (a.val + 1)).hw o

variable {D : Spec.Data} {i : ℕ} {V0 : Val}

/-- A number below 8192 as a word, read signed. -/
theorem toInt_of_lt {i : ℕ} (hi : i < 8192) : (BitVec.ofNat 32 i).toInt = (i : Int) := by
  rw [BitVec.toInt_eq_toNat_cond, BitVec.toNat_ofNat, Nat.mod_eq_of_lt (by omega)]
  split <;> omega

/-- The counter, read where the trip's slices start. -/
theorem start_ctr (h : Holds D i V0) (hi : i < 8192) (j : S_.Idx) :
    ((V0 (Proc.devRef .tc main_v24_10) : IVec S_ 32) j).toInt = (i : Int) := by
  rw [h.ctr]
  exact toInt_of_lt hi

/-- The sixteen positions of the trip's word. -/
theorem positions (h : Holds D i V0) (hi : i < 8192) (hle : D.len i ≤ 16) :
    (step_main_v24_11 V0 : FVec Ideal S128 .f32) = vec (Spec.word D i (Spec.words D i)).hc
      ∧ (step_main_v24_12 V0 : FVec Ideal S128 .f32) = vec (Spec.word D i (Spec.words D i)).cc := by
  have hx : ∀ (a : Fin 16) (j : Fin 512), (res_main_while0b_v25 V0 : FVec Ideal S16x512 .f32) (ix2 a j) = D.cg i a j := fun a j =>
    (row_cg _ _ i hi (start_ctr h hi _) rfl rfl a j).trans (congrFun h.cg (ix3 ⟨i, hi⟩ a j))
  have hn : ∀ j, ((res_main_while0b_v26 V0 : IVec S_ 32) j).toNat = D.len i := fun j =>
    (congrArg BitVec.toNat (row_len _ _ i hi (start_ctr h hi _) j)).trans (h.len ⟨i, hi⟩)
  exact sixteen D i ((Spec.words D i).hc, (Spec.words D i).cc)
    (x := res_main_while0b_v25 V0) (p := V0 (Proc.devRef .tc main_v24_4)) (len := res_main_while0b_v26 V0)
    (U := V0 (Proc.devRef .tc main_v24_3)) hx h.u h.pos hn hle
    ![res_main_while0b_v38 V0, res_main_while0b_v76 V0, res_main_while0b_v114 V0, res_main_while0b_v152 V0, res_main_while0b_v190 V0, res_main_while0b_v228 V0, res_main_while0b_v266 V0, res_main_while0b_v304 V0, res_main_while0b_v342 V0, res_main_while0b_v380 V0, res_main_while0b_v418 V0, res_main_while0b_v456 V0, res_main_while0b_v494 V0, res_main_while0b_v532 V0, res_main_while0b_v570 V0, res_main_while0b_v608 V0]
    ![res_main_while0b_v58 V0, res_main_while0b_v96 V0, res_main_while0b_v134 V0, res_main_while0b_v172 V0, res_main_while0b_v210 V0, res_main_while0b_v248 V0, res_main_while0b_v286 V0, res_main_while0b_v324 V0, res_main_while0b_v362 V0, res_main_while0b_v400 V0, res_main_while0b_v438 V0, res_main_while0b_v476 V0, res_main_while0b_v514 V0, res_main_while0b_v552 V0, res_main_while0b_v590 V0, res_main_while0b_v628 V0]
    ![res_main_while0b_v67 V0, res_main_while0b_v105 V0, res_main_while0b_v143 V0, res_main_while0b_v181 V0, res_main_while0b_v219 V0, res_main_while0b_v257 V0, res_main_while0b_v295 V0, res_main_while0b_v333 V0, res_main_while0b_v371 V0, res_main_while0b_v409 V0, res_main_while0b_v447 V0, res_main_while0b_v485 V0, res_main_while0b_v523 V0, res_main_while0b_v561 V0, res_main_while0b_v599 V0, res_main_while0b_v637 V0]
    ![V0 (Proc.devRef .tc main_v24_11), res_main_while0b_v68 V0, res_main_while0b_v106 V0, res_main_while0b_v144 V0, res_main_while0b_v182 V0, res_main_while0b_v220 V0, res_main_while0b_v258 V0, res_main_while0b_v296 V0, res_main_while0b_v334 V0, res_main_while0b_v372 V0, res_main_while0b_v410 V0, res_main_while0b_v448 V0, res_main_while0b_v486 V0, res_main_while0b_v524 V0, res_main_while0b_v562 V0, res_main_while0b_v600 V0, step_main_v24_11 V0]
    ![V0 (Proc.devRef .tc main_v24_12), res_main_while0b_v69 V0, res_main_while0b_v107 V0, res_main_while0b_v145 V0, res_main_while0b_v183 V0, res_main_while0b_v221 V0, res_main_while0b_v259 V0, res_main_while0b_v297 V0, res_main_while0b_v335 V0, res_main_while0b_v373 V0, res_main_while0b_v411 V0, res_main_while0b_v449 V0, res_main_while0b_v487 V0, res_main_while0b_v525 V0, res_main_while0b_v563 V0, res_main_while0b_v601 V0, step_main_v24_12 V0]
    h.hc h.cc
    (fun t => by fin_cases t <;> rfl) (fun t => by fin_cases t <;> rfl) (fun t => by fin_cases t <;> rfl)
    (fun t => by fin_cases t <;> rfl) (fun t => by fin_cases t <;> rfl)

/-- The word cell of the trip. -/
theorem wordCell (h : Holds D i V0) (hi : i < 8192) (hle : D.len i ≤ 16) :
    (step_main_v24_13 V0 : FVec Ideal S256 .f32) = vec (Spec.word D i (Spec.words D i)).hw
      ∧ (step_main_v24_14 V0 : FVec Ideal S256 .f32) = vec (Spec.word D i (Spec.words D i)).cw := by
  have hG : (res_main_while0b_v646 V0 : FVec Ideal S1024 .f32)
      = vec (Spec.wordGates D i (Spec.word D i (Spec.words D i)).hc (Spec.words D i).hw) := by
    refine Eq.trans (b := wordGates
      (shapeCast S256 (Host.dynamicSlice S1x256 (V0 (Proc.devRef .tc main_v24_2) : FVec Ideal S8192x256 .f32)
        (fun k => (((![V0 (Proc.devRef .tc main_v24_10), constantI S_ 32 0#32] : Fin 2 → IVec S_ 32)) k (Shape.Idx.first h_S_)).toInt)
        sliceFits_S8192x256_S1x256) shapeCasts_S1x256_S256)
      (step_main_v24_11 V0) (V0 (Proc.devRef .tc main_v24_5)) (V0 (Proc.devRef .tc main_v24_6)) (V0 (Proc.devRef .tc main_v24_13))
      (V0 (Proc.devRef .tc main_v24_7))) rfl ?_
    rw [row_we _ _ i hi (start_ctr h hi _) rfl, (positions h hi hle).1, h.w, h.bw, h.hw, h.uw, h.we]
    exact wordGates_eq _ _ _ _ _ _
  have hM : (res_main_while0b_v666 V0 : FVec Ideal S256 .f32) = vec (Spec.word D i (Spec.words D i)).cw := by
    refine Eq.trans (b := mem256 (res_main_while0b_v646 V0) (V0 (Proc.devRef .tc main_v24_14))) rfl ?_
    rw [hG, h.cw]
    exact mem256_eq _ _
  have hO : (res_main_while0b_v674 V0 : FVec Ideal S256 .f32) = vec (Spec.word D i (Spec.words D i)).hw := by
    refine Eq.trans (b := out256 (res_main_while0b_v646 V0) (res_main_while0b_v666 V0)) rfl ?_
    rw [hG, hM]
    exact out256_eq _ _
  exact ⟨hO, hM⟩

/-- The logits after the trip: the trip's row is the mathematics', the others are as they were. -/
theorem logitsRow (h : Holds D i V0) (hi : i < 8192) (hle : D.len i ≤ 16) (a : Fin 8192) (o : Fin 17) :
    (step_main_v24_15 V0 : FVec Ideal S8192x17 .f32) (ix2 a o)
      = if a.val = i then Spec.logits D (Spec.word D i (Spec.words D i)).hw o
        else (V0 (Proc.devRef .tc main_v24_15) : FVec Ideal S8192x17 .f32) (ix2 a o) := by
  have hL : logitsOf (step_main_v24_13 V0) (V0 (Proc.devRef .tc main_v24_8)) (V0 (Proc.devRef .tc main_v24_9))
      = vec (Spec.logits D (Spec.word D i (Spec.words D i)).hw) := by
    rw [(wordCell h hi hle).1, h.wo, h.bo]
    exact logitsOf_eq _ _ _
  rw [← put_row (V0 (Proc.devRef .tc main_v24_15)) (Spec.logits D (Spec.word D i (Spec.words D i)).hw)
    (fun k => (((![V0 (Proc.devRef .tc main_v24_10), constantI S_ 32 0#32] : Fin 2 → IVec S_ 32)) k (Shape.Idx.first h_S_)).toInt)
    i hi (start_ctr h hi _) rfl a o, ← hL]
  rfl

/-- ONE TRIP is one word. -/
theorem holds_step (h : Holds D i V0) (hi : i < 8192) (hle : D.len i ≤ 16) : Holds D (i + 1) (STEP V0) where
  cg := (STEP_main_v24_0 V0).trans h.cg
  we := (STEP_main_v24_2 V0).trans h.we
  u := (STEP_main_v24_3 V0).trans h.u
  pos := (STEP_main_v24_4 V0).trans h.pos
  w := (STEP_main_v24_5 V0).trans h.w
  bw := (STEP_main_v24_6 V0).trans h.bw
  uw := (STEP_main_v24_7 V0).trans h.uw
  wo := (STEP_main_v24_8 V0).trans h.wo
  bo := (STEP_main_v24_9 V0).trans h.bo
  len a := (congrArg (fun x : IVec S8192 32 => (x (ix1 a)).toNat) (STEP_main_v24_1 V0)).trans (h.len a)
  ctr := by
    refine (STEP_main_v24_10 V0).trans ?_
    unfold step_main_v24_10
    rw [h.ctr]
    funext j
    show BitVec.ofNat 32 i + 1#32 = BitVec.ofNat 32 (i + 1)
    simp only [BitVec.ofNat_add]
  hc := (STEP_main_v24_11 V0).trans (positions h hi hle).1
  cc := (STEP_main_v24_12 V0).trans (positions h hi hle).2
  hw := (STEP_main_v24_13 V0).trans (wordCell h hi hle).1
  cw := (STEP_main_v24_14 V0).trans (wordCell h hi hle).2
  out a o ha := by
    refine (congrFun (STEP_main_v24_15 V0) (ix2 a o)).trans ((logitsRow h hi hle a o).trans ?_)
    by_cases e : a.val = i
    · rw [if_pos e, e]; rfl
    · rw [if_neg e]; exact h.out a o (by omega)

/-- ALL TRIPS. -/
theorem holds_iterate (h : Holds D 0 V0) (hle : ∀ i, i < 8192 → D.len i ≤ 16) : ∀ i, i ≤ 8192 → Holds D i (STEP^[i] V0)
  | 0, _ => h
  | i + 1, hi => by
    rw [Function.iterate_succ_apply']
    exact holds_step (holds_iterate h hle i (by omega)) (by omega) (hle i (by omega))

/-- The logits after all trips. -/
theorem out_iterate (h : Holds D 0 V0) (hle : ∀ i, i < 8192 → D.len i ≤ 16) (a : Fin 8192) (o : Fin 17) :
    ((STEP^[8192] V0) (Proc.devRef .tc main_v24_15) : FVec Ideal S8192x17 .f32) (ix2 a o)
      = Spec.logits D (Spec.words D (a.val + 1)).hw o :=
  (holds_iterate h hle 8192 (Nat.le_refl _)).out a o a.isLt

end Cert.Proof.RefStep
-- ==== Proof.RefEntry.lean ====
/- The reference's buffers as its loop is entered: they hold the tagger's data and the state before any word. -/
module

public import proofs.«01_k».proof.Proof.RefGather
public import proofs.«01_k».proof.Proof.RefStep
public import proofs.«01_k».proof.Proof.Data
public import proofs.«01_k».proof.Proof.Ranges

@[expose] public section

noncomputable section

namespace Cert.Proof.RefEntry

open Cert.ReferenceIdeal Cert.ReferenceIdeal.Gen Cert.ReferenceIdeal.Value
open Cert.Proof.RefMath Cert.Proof.RefStep Cert.Proof.RefGather
open Idealize.ShloMosaic Idealize.ShloMosaic.TcCoe Idealize.ShloMosaic.StableHlo

variable (m : (ℓ : Loc nD τ sig) → Buf (Elt Ideal) ℓ) (c : Dev nD)

/-- The tagger's data, of a memory's arguments on core `c`. -/
def dataAt : Spec.Data := Spec.dataOf
  (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))
  (m ((c.tc : Thread nD τ).loc main_arg12))

/-- What the loop starts from, with the integer arguments in range. -/
structure InRange : Prop where
  ids : ∀ i, ((m ((c.tc : Thread nD τ).loc main_arg0) : IVec S8192 32) i).toNat < 100000
  chr : ∀ j, ((m ((c.tc : Thread nD τ).loc main_arg1) : IVec S8192x16 32) j).toNat < 128

/-- A vector of zeros is the mathematics' first character state. -/
theorem zeros128 : broadcastInDim S128 ![] bcast_S_S128 (constant (F := Ideal) S_ .f32 0x00000000#32) = vec fun _ => (0 : EReal) := by
  funext j
  pointwise [vec]

/-- A vector of zeros is the mathematics' first word state. -/
theorem zeros256 : broadcastInDim S256 ![] bcast_S_S256 (constant (F := Ideal) S_ .f32 0x00000000#32) = vec fun _ => (0 : EReal) := by
  funext j
  pointwise [vec]

set_option maxRecDepth 65536 in
set_option maxHeartbeats 700000 in
/-- As the loop is entered its buffers hold the data and the state before any word. -/
theorem holds_entry (h : InRange m c) : Holds (dataAt m c) 0 (entryContents preI m c) := by
  constructor
  case cg =>
    simp only [entryContents, afterL_cons, afterL_nil]
    after_reads_simp
    refine (chars_eq _ _ _ _ h.chr).trans (funext fun j => ?_)
    obtain ⟨i, t, k, rfl⟩ : ∃ (i : Fin 8192) (t : Fin 16) (k : Fin 512), j = ix3 i t k := by idx_vars j; exact ⟨j0, j1, j2, rfl⟩
    show _ = (dataAt m c).cg i.val t.val k
    simp only [dataAt, Spec.dataOf, Spec.wordNo, Spec.posNo, Nat.mod_eq_of_lt i.isLt, Nat.mod_eq_of_lt t.isLt]
    rfl
  case we =>
    simp only [entryContents, afterL_cons, afterL_nil]
    after_reads_simp
    refine (words_eq _ _ h.ids).trans (funext fun j => ?_)
    obtain ⟨i, k, rfl⟩ : ∃ (i : Fin 8192) (k : Fin 256), j = ix2 i k := by idx_vars j; exact ⟨j0, j1, rfl⟩
    show _ = (dataAt m c).we i.val k
    simp only [dataAt, Spec.dataOf, Spec.wordNo, Nat.mod_eq_of_lt i.isLt]
    rfl
  case len =>
    intro a
    simp only [entryContents, afterL_cons, afterL_nil]
    after_reads_simp
    simp only [dataAt, Spec.dataOf, Spec.wordNo, Nat.mod_eq_of_lt a.isLt]
    rfl
  case out => exact fun a o ha => absurd ha (Nat.not_lt_zero _)
  all_goals
    simp only [entryContents, afterL_cons, afterL_nil]
    after_reads_simp
  case pos => rfl
  case ctr => rfl
  case hc | cc => exact zeros128
  case hw | cw => exact zeros256
  all_goals
    funext j
    idx_vars j
    rfl

end Cert.Proof.RefEntry

end
-- ==== Proof.Algebraic.lean ====
/- The value claim: over the extended reals, with the integer arguments in range, the kernel and the reference leave the same
   logits. -/
module

public import proofs.«01_k».proof.Defs
public import proofs.«01_k».proof.Proof.KernelValue
public import proofs.«01_k».proof.Proof.RefEntry

@[expose] public section

noncomputable section

namespace Cert.Proof

open Idealize.ShloMosaic Idealize.ShloMosaic.TcCoe

/-- The reference's result at a word and a label is the mathematics' logit. -/
theorem ref_value_at (m : (ℓ : Loc Cert.ReferenceIdeal.nD Cert.ReferenceIdeal.τ Cert.ReferenceIdeal.sig) → Buf (Elt Ideal) ℓ)
    (c : Dev Cert.ReferenceIdeal.nD) (h : RefEntry.InRange m c) (hlen : ∀ i, i < 8192 → (RefEntry.dataAt m c).len i ≤ 16)
    (i : Fin 8192) (o : Fin 17) :
    ((Cert.ReferenceIdeal.Value.STEP^[8192] (StableHlo.entryContents Cert.ReferenceIdeal.Value.preI m c))
        (Proc.devRef .tc Cert.ReferenceIdeal.main_v24_15) : FVec Ideal Cert.ReferenceIdeal.S8192x17 .f32) (ix2 i o)
      = Spec.logits (RefEntry.dataAt m c) (Spec.words (RefEntry.dataAt m c) (i.val + 1)).hw o :=
  RefStep.out_iterate (RefEntry.holds_entry m c h) hlen i o

/-- Both programs leave the mathematics' logits. -/
theorem algebraic : Cert.algebraic_KernelIdeal_ReferenceIdeal := by
  intro m g m' g' hpre hargs
  have hr : ∀ c, Chain.RangesAt m c := fun c => Chain.ranges_of_pre _ _ _ _ _ _ _ _ _ _ _ _ _ (hpre c)
  refine ⟨fun c => Cert.KernelIdeal.Gen.V5 m (Chain.outs m (Chain.ok_of_ranges m hr)) c (Proc.devRef .tc Cert.KernelIdeal.main_v23),
    θ_run_mono (Chain.run_ranges m g hr) fun _ h => h.1, ?_⟩
  refine θ_run_mono (Cert.ReferenceIdeal.Value.run (F := Ideal) m' g') fun r h c => ⟨(h c).1.trans ?_, (h c).2⟩
  obtain ⟨h0, h1, h2, h3, h4, h5, h6, h7, h8, h9, h10, h11, h12⟩ := hargs c
  have hd : RefEntry.dataAt m' c = KernelValue.dataAt m c := by
    unfold RefEntry.dataAt KernelValue.dataAt
    rw [h0, h1, h2, h3, h4, h5, h6, h7, h8, h9, h10, h11, h12]
  have hin : RefEntry.InRange m' c := by
    constructor
    · rw [h0]; exact (hr c).ids
    · rw [h1]; exact (hr c).chr
  have hlen : ∀ i, i < 8192 → (RefEntry.dataAt m' c).len i ≤ 16 := by
    rw [hd]
    exact fun i _ => ((hr c).len _).2
  funext j
  obtain ⟨i, o, rfl⟩ : ∃ (i : Fin 8192) (o : Fin 17), j = ix2 i o := by idx_vars j; exact ⟨j0, j1, rfl⟩
  refine (ref_value_at m' c hin hlen i o).trans ?_
  rw [hd]
  exact (KernelValue.value_at m c hr i o).symm

end Cert.Proof

end
-- ==== Proof.lean ====
/- The proof of this directory's claim, assembled: the frames of the kernel (Proof/Frames.lean) and of the reference
   (Proof/RefFrame.lean), and their equal results over the extended reals (Proof/Algebraic.lean). -/
module

public import proofs.«01_k».proof.Defs
public import proofs.«01_k».proof.Proof.Frames
public import proofs.«01_k».proof.Proof.RefFrame
public import proofs.«01_k».proof.Proof.Algebraic

@[expose] public section

noncomputable section

namespace Cert.Proof

/-- Everything claimed. -/
theorem claim : Cert.Claim :=
  ⟨inferInstance, inferInstance, inferInstance, inferInstance, Chain.frameK, Chain.frameI, Ref.frameR, trivial, algebraic⟩

end Cert.Proof

end
